-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096x26 : Shape := ⟨2, ![4096, 26]⟩
abbrev S4096x13 : Shape := ⟨2, ![4096, 13]⟩
abbrev S26x1000x50 : Shape := ⟨3, ![26, 1000, 50]⟩
abbrev S1313x1024 : Shape := ⟨2, ![1313, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x1313 : Shape := ⟨2, ![1024, 1313]⟩
abbrev S1313 : Shape := ⟨1, ![1313]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : IVec S4096x26 32) (main_arg1 : FVec F S4096x13 .f32) (main_arg2 : FVec F S26x1000x50 .f32) (main_arg3 : FVec F S1313x1024 .f32) (main_arg4 : FVec F S1024 .f32) (main_arg5 : FVec F S1024x512 .f32) (main_arg6 : FVec F S512 .f32) (main_arg7 : FVec F S512x1024 .f32) (main_arg8 : FVec F S1024 .f32) (main_arg9 : FVec F S1024x1313 .f32) (main_arg10 : FVec F S1313 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  main_v4
-- ==== Kernel.lean ====
abbrev S4096x26 : Shape := ⟨2, ![4096, 26]⟩
abbrev S4096x13 : Shape := ⟨2, ![4096, 13]⟩
abbrev S26x1000x50 : Shape := ⟨3, ![26, 1000, 50]⟩
abbrev S1313x1024 : Shape := ⟨2, ![1313, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x1313 : Shape := ⟨2, ![1024, 1313]⟩
abbrev S1313 : Shape := ⟨1, ![1313]⟩
abbrev S26000x50 : Shape := ⟨2, ![26000, 50]⟩
abbrev S_ : Shape := ⟨0, ![]⟩
abbrev S26000x128 : Shape := ⟨2, ![26000, 128]⟩
abbrev S106496 : Shape := ⟨1, ![106496]⟩
abbrev S106496x128 : Shape := ⟨2, ![106496, 128]⟩
abbrev S3328 : Shape := ⟨1, ![3328]⟩
abbrev S26x128 : Shape := ⟨2, ![26, 128]⟩
abbrev S2x256x128 : Shape := ⟨3, ![2, 256, 128]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x256x128 : Shape := ⟨3, ![1, 256, 128]⟩
abbrev S256x128 : Shape := ⟨2, ![256, 128]⟩
abbrev S4096x3328 : Shape := ⟨2, ![4096, 3328]⟩
abbrev S1300x1024 : Shape := ⟨2, ![1300, 1024]⟩
abbrev S26x128x1024 : Shape := ⟨3, ![26, 128, 1024]⟩
abbrev S26x50x1024 : Shape := ⟨3, ![26, 50, 1024]⟩
abbrev S1 : Shape := ⟨1, ![1]⟩
abbrev S3328x1024 : Shape := ⟨2, ![3328, 1024]⟩
abbrev S13x1024 : Shape := ⟨2, ![13, 1024]⟩
abbrev S1x1024 : Shape := ⟨2, ![1, 1024]⟩
abbrev S1x512 : Shape := ⟨2, ![1, 512]⟩
abbrev S1x1313 : Shape := ⟨2, ![1, 1313]⟩
abbrev S4096x1313 : Shape := ⟨2, ![4096, 1313]⟩
abbrev S512x3328 : Shape := ⟨2, ![512, 3328]⟩
abbrev S512x13 : Shape := ⟨2, ![512, 13]⟩
abbrev S512x1313 : Shape := ⟨2, ![512, 1313]⟩
abbrev S512x512 : Shape := ⟨2, ![512, 512]⟩

abbrev nBuf : Table → Nat
  | .hbm => 32
  | .local .tc .vmem => 15
  | .local .scVector .vmem => 3
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S26x1000x50, .f32⟩
  | .hbm, ⟨3, _⟩ => ⟨S1313x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x1313, .f32⟩
  | .hbm, ⟨10, _⟩ => ⟨S1313, .f32⟩
  | .hbm, ⟨11, _⟩ => ⟨S26000x50, .f32⟩
  | .hbm, ⟨12, _⟩ => ⟨S_, .i32⟩
  | .hbm, ⟨13, _⟩ => ⟨S_, .f32⟩
  | .hbm, ⟨14, _⟩ => ⟨S26000x128, .f32⟩
  | .hbm, ⟨15, _⟩ => ⟨S106496, .i32⟩
  | .hbm, ⟨16, _⟩ => ⟨S106496x128, .f32⟩
  | .hbm, ⟨17, _⟩ => ⟨S4096x3328, .f32⟩
  | .hbm, ⟨18, _⟩ => ⟨S1300x1024, .f32⟩
  | .hbm, ⟨19, _⟩ => ⟨S_, .f32⟩
  | .hbm, ⟨20, _⟩ => ⟨S26x128x1024, .f32⟩
  | .hbm, ⟨21, _⟩ => ⟨S26x50x1024, .f32⟩
  | .hbm, ⟨22, _⟩ => ⟨S_, .i32⟩
  | .hbm, ⟨23, _⟩ => ⟨S1, .i32⟩
  | .hbm, ⟨24, _⟩ => ⟨S26x128x1024, .f32⟩
  | .hbm, ⟨25, _⟩ => ⟨S3328x1024, .f32⟩
  | .hbm, ⟨26, _⟩ => ⟨S13x1024, .f32⟩
  | .hbm, ⟨27, _⟩ => ⟨S1x1024, .f32⟩
  | .hbm, ⟨28, _⟩ => ⟨S1x512, .f32⟩
  | .hbm, ⟨29, _⟩ => ⟨S1x1024, .f32⟩
  | .hbm, ⟨30, _⟩ => ⟨S1x1313, .f32⟩
  | .hbm, ⟨31, _⟩ => ⟨S4096x1313, .f32⟩
  | .local .tc .vmem, ⟨0, _⟩ => ⟨S512x3328, .f32⟩
  | .local .tc .vmem, ⟨1, _⟩ => ⟨S512x3328, .f32⟩
  | .local .tc .vmem, ⟨2, _⟩ => ⟨S512x13, .f32⟩
  | .local .tc .vmem, ⟨3, _⟩ => ⟨S512x13, .f32⟩
  | .local .tc .vmem, ⟨4, _⟩ => ⟨S3328x1024, .f32⟩
  | .local .tc .vmem, ⟨5, _⟩ => ⟨S13x1024, .f32⟩
  | .local .tc .vmem, ⟨6, _⟩ => ⟨S1x1024, .f32⟩
  | .local .tc .vmem, ⟨7, _⟩ => ⟨S1024x512, .f32⟩
  | .local .tc .vmem, ⟨8, _⟩ => ⟨S1x512, .f32⟩
  | .local .tc .vmem, ⟨9, _⟩ => ⟨S512x1024, .f32⟩
  | .local .tc .vmem, ⟨10, _⟩ => ⟨S1x1024, .f32⟩
  | .local .tc .vmem, ⟨11, _⟩ => ⟨S1024x1313, .f32⟩
  | .local .tc .vmem, ⟨12, _⟩ => ⟨S1x1313, .f32⟩
  | .local .tc .vmem, ⟨13, _⟩ => ⟨S512x1313, .f32⟩
  | .local .tc .vmem, ⟨14, _⟩ => ⟨S512x1313, .f32⟩
  | .local .scVector .vmem, ⟨0, _⟩ => ⟨S3328, .i32⟩
  | .local .scVector .vmem, ⟨1, _⟩ => ⟨S26x128, .i32⟩
  | .local .scVector .vmem, ⟨2, _⟩ => ⟨S2x256x128, .f32⟩
  | _, _ => ⟨S4096x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v2_scv : Ref sig .scVector := ⟨.hbm, 15, rfl⟩
abbrev main_v1_scv : Ref sig .scVector := ⟨.hbm, 14, rfl⟩
abbrev main_v3_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg11_1 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem11_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  ![v2.toNat]
@[reducible] def k0_t1_loop : Scf.Loop 32 :=
  let c0_i32_0 : BitVec 32 := 0#32
  let c26_i32 : BitVec 32 := 26#32
  let v3 : BitVec 32 := Scalar.addi c0_i32_0 c26_i32
  let c1_i32 : BitVec 32 := 1#32
  ⟨c0_i32_0, v3, c1_i32⟩
def k0_mult1 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_525 : BitVec 32 := 128#32
  let v434 : BitVec 32 := Scalar.muli arg11 c128_i32_525
  let c0_i32_526 : BitVec 32 := 0#32
  let v435 : BitVec 32 := Scalar.addi v434 c0_i32_526
  v435
def k0_off2 (k0_t1 : Fin k0_t1_loop.trips) (c0_i32_526 : BitVec 32) : Fin 1 → Nat :=
  let c0_i32_0 : BitVec 32 := 0#32
  let c1_i32 : BitVec 32 := 1#32
  let arg11 : BitVec 32 := Scf.iv c0_i32_0 c1_i32 k0_t1
  let c128_i32_525 : BitVec 32 := 128#32
  let v434 : BitVec 32 := Scalar.muli arg11 c128_i32_525
  let v435 : BitVec 32 := Scalar.addi v434 c0_i32_526
  let v436 : BitVec 32 := v435
  let v441 : Index := Scalar.indexCast v436
  ![v441.toNat]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v463 : Index := Scalar.indexCast arg11
  let c0 : Index := 0#32
  ![v463.toNat, 0]
def k0_mult2 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_533 : BitVec 32 := 128#32
  let v467 : BitVec 32 := Scalar.muli arg11 c128_i32_533
  let c16_i32_534 : BitVec 32 := 16#32
  let v468 : BitVec 32 := Scalar.addi v467 c16_i32_534
  v468
def k0_off4 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v496 : Index := Scalar.indexCast arg11
  let c16 : Index := 16#32
  ![v496.toNat, 16]
def k0_mult3 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_542 : BitVec 32 := 128#32
  let v500 : BitVec 32 := Scalar.muli arg11 c128_i32_542
  let c32_i32 : BitVec 32 := 32#32
  let v501 : BitVec 32 := Scalar.addi v500 c32_i32
  v501
def k0_off5 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v529 : Index := Scalar.indexCast arg11
  let c32 : Index := 32#32
  ![v529.toNat, 32]
def k0_mult4 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_550 : BitVec 32 := 128#32
  let v533 : BitVec 32 := Scalar.muli arg11 c128_i32_550
  let c48_i32 : BitVec 32 := 48#32
  let v534 : BitVec 32 := Scalar.addi v533 c48_i32
  v534
def k0_off6 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v562 : Index := Scalar.indexCast arg11
  let c48 : Index := 48#32
  ![v562.toNat, 48]
def k0_mult5 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_558 : BitVec 32 := 128#32
  let v566 : BitVec 32 := Scalar.muli arg11 c128_i32_558
  let c64_i32 : BitVec 32 := 64#32
  let v567 : BitVec 32 := Scalar.addi v566 c64_i32
  v567
def k0_off7 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v595 : Index := Scalar.indexCast arg11
  let c64 : Index := 64#32
  ![v595.toNat, 64]
def k0_mult6 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_566 : BitVec 32 := 128#32
  let v599 : BitVec 32 := Scalar.muli arg11 c128_i32_566
  let c80_i32 : BitVec 32 := 80#32
  let v600 : BitVec 32 := Scalar.addi v599 c80_i32
  v600
def k0_off8 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v628 : Index := Scalar.indexCast arg11
  let c80 : Index := 80#32
  ![v628.toNat, 80]
def k0_mult7 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_574 : BitVec 32 := 128#32
  let v632 : BitVec 32 := Scalar.muli arg11 c128_i32_574
  let c96_i32 : BitVec 32 := 96#32
  let v633 : BitVec 32 := Scalar.addi v632 c96_i32
  v633
def k0_off9 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v661 : Index := Scalar.indexCast arg11
  let c96 : Index := 96#32
  ![v661.toNat, 96]
def k0_mult8 (k0_t1 : Fin k0_t1_loop.trips) : BitVec 32 :=
  let c0_i32_0 : BitVec 32 := 0#32
  let c1_i32 : BitVec 32 := 1#32
  let arg11 : BitVec 32 := Scf.iv c0_i32_0 c1_i32 k0_t1
  let c128_i32_582 : BitVec 32 := 128#32
  let v665 : BitVec 32 := Scalar.muli arg11 c128_i32_582
  let c112_i32 : BitVec 32 := 112#32
  let v666 : BitVec 32 := Scalar.addi v665 c112_i32
  v666
def k0_off10 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v694 : Index := Scalar.indexCast arg11
  let c112 : Index := 112#32
  ![v694.toNat, 112]
def k0_off11 (i : grid0.Coords) (c0_i32_29 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let v25 : BitVec 32 := Scalar.addi v2 c0_i32_29
  let c0_i32_33 : BitVec 32 := 0#32
  ![v25.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3328 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3328x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S13x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1313 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1313 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1313 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S4096x13 : Shape := ⟨2, ![4096, 13]⟩
abbrev S26x1000x50 : Shape := ⟨3, ![26, 1000, 50]⟩
abbrev S1313x1024 : Shape := ⟨2, ![1313, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x1313 : Shape := ⟨2, ![1024, 1313]⟩
abbrev S1313 : Shape := ⟨1, ![1313]⟩
abbrev S26 : Shape := ⟨1, ![26]⟩
abbrev S_ : Shape := ⟨0, ![]⟩
abbrev S4096x26x1 : Shape := ⟨3, ![4096, 26, 1]⟩
abbrev S4096x26x2 : Shape := ⟨3, ![4096, 26, 2]⟩
abbrev S4096x26x50 : Shape := ⟨3, ![4096, 26, 50]⟩
abbrev S4096x1300 : Shape := ⟨2, ![4096, 1300]⟩
abbrev S4096x1313 : Shape := ⟨2, ![4096, 1313]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S1x1313 : Shape := ⟨2, ![1, 1313]⟩

abbrev nBuf : Space → Nat
  | .hbm => 55
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x13, .f32⟩
  | .hbm, ⟨2, _⟩ => ⟨S26x1000x50, .f32⟩
  | .hbm, ⟨3, _⟩ => ⟨S1313x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x1313, .f32⟩
  | .hbm, ⟨10, _⟩ => ⟨S1313, .f32⟩
  | .hbm, ⟨11, _⟩ => ⟨S26, .i32⟩
  | .hbm, ⟨12, _⟩ => ⟨S_, .i32⟩
  | .hbm, ⟨13, _⟩ => ⟨S26, .i32⟩
  | .hbm, ⟨14, _⟩ => ⟨S26, .i1⟩
  | .hbm, ⟨15, _⟩ => ⟨S_, .i32⟩
  | .hbm, ⟨16, _⟩ => ⟨S26, .i32⟩
  | .hbm, ⟨17, _⟩ => ⟨S26, .i32⟩
  | .hbm, ⟨18, _⟩ => ⟨S26, .i32⟩
  | .hbm, ⟨19, _⟩ => ⟨S_, .i32⟩
  | .hbm, ⟨20, _⟩ => ⟨S4096x26, .i32⟩
  | .hbm, ⟨21, _⟩ => ⟨S4096x26, .i1⟩
  | .hbm, ⟨22, _⟩ => ⟨S_, .i32⟩
  | .hbm, ⟨23, _⟩ => ⟨S4096x26, .i32⟩
  | .hbm, ⟨24, _⟩ => ⟨S4096x26, .i32⟩
  | .hbm, ⟨25, _⟩ => ⟨S4096x26, .i32⟩
  | .hbm, ⟨26, _⟩ => ⟨S4096x26, .i32⟩
  | .hbm, ⟨27, _⟩ => ⟨S4096x26x1, .i32⟩
  | .hbm, ⟨28, _⟩ => ⟨S4096x26x1, .i32⟩
  | .hbm, ⟨29, _⟩ => ⟨S4096x26x2, .i32⟩
  | .hbm, ⟨30, _⟩ => ⟨S4096x26x50, .f32⟩
  | .hbm, ⟨31, _⟩ => ⟨S4096x1300, .f32⟩
  | .hbm, ⟨32, _⟩ => ⟨S4096x1313, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1313, .f32⟩
  | .hbm, ⟨52, _⟩ => ⟨S1x1313, .f32⟩
  | .hbm, ⟨53, _⟩ => ⟨S4096x1313, .f32⟩
  | .hbm, ⟨54, _⟩ => ⟨S4096x1313, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Proof.GatherBatch.lean ====
/-
  Several indirect gathers outstanding on ONE DMA semaphore.

  A tile of a SparseCore issues two indirect gathers on the same semaphore and waits twice. The first wait may return
  with rows of either gather still on their way, so nothing may be read before the second one has returned. This module
  states that reasoning once: the rows of all the gathers are the transfers of one counted batch (`Transfers.Batch`), each
  row a transfer of the same credit. Issuing a gather spends as many of the batch's issue rights as the gather has rows
  (`wp_gatherBatch`); the waits are the batch's own (all but the last hand nothing back, the last hands every row back);
  and the rows of one gather together are its destination written with the gather's payload, the source's share and the
  offset list's share (`rowsLanded_join`).
-/
module

public import Idealize.ShloMosaic.Lib.SparseCore.Stream
public import Idealize.ShloMosaic.Lib.Batch

@[expose] public section

noncomputable section

namespace Cert.GatherBatch

open Idealize.ShloMosaic Idealize.ShloMosaic.Transfers Idealize.ShloMosaic.SparseCore
open Idealize.SL
open Idealize.SL.BI (sProp Storable bigSep bigSep_union bigSep_map)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The list's index of entry `k`: the `k`-th in row-major order. -/
def entry {o : ℕ} (hn : si.numel = o) (k : Fin o) : si.Idx := si.rowMajor.symm (k.cast hn.symm)

theorem entry_bijective {o : ℕ} (hn : si.numel = o) : Function.Bijective (entry (si := si) hn) :=
  si.rowMajor.symm.bijective.comp (finCongr hn.symm).bijective

/-- What row `k` of a gather holds: the source's row `r k`. -/
def rowData (src : Memref sig c.2.kind sp s₀ e) (hg : s₀.Gathers a s) (fs : Buf (Elt F) (src.view.loc c))
    (r : Fin (s.size hg.axis') → Fin (s₀.size hg.axis)) (k : Fin (s.size hg.axis')) : (s.rowShape hg.axis').Idx → Elt F e :=
  fun i => src.view.read (Elt F) fs (hg.rowIdx (r k) i)

/-- One row of a gather, landed: row `k` of the destination written with the source's row `r k`, the list's entry `k`
    back, and the row's piece of the source's share back. -/
def rowLanded (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) : sProp 𝕄 :=
  iprop(((dst.view.loc c ↦[(dst.view.slice (s.rowRect hg.axis' k)).set]{fullShare}
            ((dst.view.slice (s.rowRect hg.axis' k)).write (Elt F) fd (rowData c src hg fs r k) Finset.univ))
        ∗ (offs.view.loc c ↦[{offs.view.emb (entry hn k)}]{qo} fo))
      ∗ (src.view.loc c ↦[src.view.set]{pieceOf q _ ho k} fs))

instance rowLanded_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) :
    Storable (upEmb : UEmb _ 𝕄) (rowLanded (Ix := Ix) (Name := Name) (U := U) (Lvl := Lvl) c src dst hg offs hn ho q qo fs fd fo r k) := by
  unfold rowLanded; infer_instance

/-- The rows of one gather together: its destination written with the payload, the source's share whole again and the
    list's share whole again. -/
theorem rowsLanded_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowLanded (Ix := Ix) (Name := Name) (U := U) (Lvl := Lvl) c src dst hg offs hn ho q qo fs fd fo r)
      ⊢ iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) := by
  have hW : ∀ j i, rowData c src hg fs r j i
      = gatherPayload hg (src.view.read (Elt F) fs) r ((s.rowRect hg.axis' j).emb i) := fun j i => by
    change src.view.read (Elt F) fs (hg.rowIdx (r j) i) = src.view.read (Elt F) fs _
    rw [Shape.Gathers.idx_rowRect_emb]
  unfold rowLanded
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply (pointsTo_rows_write c dst.view hg.axis' fd (rowData c src hg fs r) _ hW) $$ Hrows
  isplitl [Hsrc]; · iapply (Entails.of_eq (pointsTo_piecesOf (src.view.set) fs ho q).symm) $$ Hsrc
  iapply (Entails.of_eq (pointsTo_entries c offs.view (entry hn) (entry_bijective hn) qo fo).symm) $$ Hoffs

/-- The issue rights from the `j`-th on are those of the next `o` transfers and those from the `(j + o)`-th on. -/
theorem bigSep_pending_add {n : ℕ} (j o : ℕ) (h : j + o ≤ n) (Φ : Fin n → sProp 𝕄) :
    bigSep (pending j) Φ
      = iprop(bigSep Finset.univ (fun k : Fin o => Φ ⟨j + k.val, by omega⟩) ∗ bigSep (pending (j + o)) Φ) := by
  classical
  let em : Fin o ↪ Fin n := ⟨fun k => ⟨j + k.val, by omega⟩, fun k k' hk => by
    have := congrArg Fin.val hk; simp only at this; exact Fin.ext (by omega)⟩
  have hset : pending (n := n) j = Finset.univ.map em ∪ pending (j + o) := by
    ext t
    simp only [pending, Finset.mem_filter, Finset.mem_univ, true_and, Finset.mem_union, Finset.mem_map]
    constructor
    · intro ht
      by_cases h' : j + o ≤ t.val
      · exact .inr h'
      · exact .inl ⟨⟨t.val - j, by omega⟩, Fin.ext (by change j + (t.val - j) = t.val; omega)⟩
    · rintro (⟨k, rfl⟩ | h')
      · change j ≤ j + k.val; omega
      · omega
  have hdis : Disjoint (Finset.univ.map em) (pending (n := n) (j + o)) := by
    rw [Finset.disjoint_left]
    intro t ht ht'
    obtain ⟨k, -, rfl⟩ := Finset.mem_map.mp ht
    have := (Finset.mem_filter.mp ht').2
    change j + o ≤ j + k.val at this
    omega
  rw [hset, bigSep_union hdis, bigSep_map]
  rfl

/-- Issuing an indirect gather whose rows are the next of a batch's transfers: each row credits the batch's unit `N`, and
    transfer `j + k` of the batch is to deliver what row `k` of the gather lands (`hD`). Every word of the list is in
    range (`hin`). The tile gives the source's share, the destination outright and the list's share, and continues with
    the batch, the gather's rows issued. -/
theorem wp_gatherBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'), rowLanded (Ix := Ix) (Name := Name) (U := U) (Lvl := Lvl) c src dst hg offs hn ho q qo fs fd fo
        (rows (offs.view.read (Elt F) fo) hn hin) i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (rd i).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (bigSep_pending_add j (s.size hg.axis') hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view (entry hn) (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd)
              ∗ (offs.view.loc c ↦[{offs.view.emb (entry hn i)}]{qo} fo))
            ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
          ((dst.view.slice (s.rowRect hg.axis' i)).write (Elt F) fd (rowData c src hg fs r i) Finset.univ))
          ∗ (offs.view.loc c ↦[{offs.view.emb (entry hn i)}]{qo} fo))
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (.dma sem) = N from hN i]
        iapply (batch_creditUpdate EC (N := N) (D := D) (γ₀ := γ₀) ⟨j + i.val, by omega⟩ (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

/-- The deliveries of two gathers, one after the other, as the transfers of one batch. -/
def twoOf {o o' : ℕ} (A : Fin o → sProp 𝕄) (B : Fin o' → sProp 𝕄) (t : Fin (o + o')) : sProp 𝕄 :=
  if h : t.val < o then A ⟨t.val, h⟩ else B ⟨t.val - o, by omega⟩

instance twoOf_storable {o o' : ℕ} (A : Fin o → sProp 𝕄) (B : Fin o' → sProp 𝕄)
    [∀ i, Storable (upEmb : UEmb _ 𝕄) (A i)] [∀ i, Storable (upEmb : UEmb _ 𝕄) (B i)] (t : Fin (o + o')) :
    Storable (upEmb : UEmb _ 𝕄) (twoOf A B t) := by
  unfold twoOf; split <;> infer_instance

theorem twoOf_left {o o' : ℕ} (A : Fin o → sProp 𝕄) (B : Fin o' → sProp 𝕄) (i : Fin o) (h : 0 + i.val < o + o') :
    twoOf A B ⟨0 + i.val, h⟩ = A i := by
  unfold twoOf
  rw [dif_pos (show 0 + i.val < o by omega)]
  exact congrArg A (Fin.ext (Nat.zero_add _))

theorem twoOf_right {o o' : ℕ} (A : Fin o → sProp 𝕄) (B : Fin o' → sProp 𝕄) (i : Fin o') (h : 0 + o + i.val < o + o') :
    twoOf A B ⟨0 + o + i.val, h⟩ = B i := by
  unfold twoOf
  rw [dif_neg (show ¬ 0 + o + i.val < o by omega)]
  exact congrArg B (Fin.ext (by change 0 + o + i.val - o = i.val; omega))

theorem bigSep_twoOf {o o' : ℕ} (A : Fin o → sProp 𝕄) (B : Fin o' → sProp 𝕄) :
    bigSep Finset.univ (twoOf A B) = iprop(bigSep Finset.univ A ∗ bigSep Finset.univ B) := by
  rw [← pending_zero, bigSep_pending_add 0 o (by omega), bigSep_pending_add (0 + o) o' (by omega),
    show pending (n := o + o') (0 + o + o') = ∅ by
      ext t; simp only [pending, Finset.mem_filter, Finset.mem_univ, true_and, Finset.notMem_empty, iff_false]; omega,
    BI.bigSep_empty]
  rw [BI.bigSep_congr (fun i _ => twoOf_left A B i (by omega)), BI.bigSep_congr (fun i _ => twoOf_right A B i (by omega))]
  exact congrArg (fun X : sProp 𝕄 => iprop(bigSep Finset.univ A ∗ X)) (BI.equiv_iff.mp (BI.sep_emp (P := (bigSep Finset.univ B : sProp 𝕄))))

/-- A share of a block of one buffer, as the two halves of the share. -/
theorem pointsTo_halves {ℓ : Loc nD τ sig} (I : Finset _) (q : PosShare TreeShare) (f : Buf (Elt F) ℓ) :
    (ℓ ↦[I]{q} f : sProp 𝕄) = iprop((ℓ ↦[I]{pieceOf q 2 (by omega) 0} f) ∗ (ℓ ↦[I]{pieceOf q 2 (by omega) 1} f)) :=
  (pointsTo_piecesOf I f (by omega : 0 < 2) q).trans (BI.bigSep_fin_two _)

/-- Two indirect gathers from one source issued on one semaphore, then a wait for each: the semaphore's counter is at zero
    before and after, and after the second wait each destination is written with its own payload. -/
theorem wp_gatherPair [Infinite Name] [EC.LandsIn (upEmb : UEmb _ 𝕄)]
    {src : Memref sig c.2.kind sp s₀ e} {dstA dstB : Memref sig c.2.kind .vmem s e} {hg : s₀.Gathers a s}
    {offsA offsB : Memref sig c.2.kind .vmem si .i32} {hn : si.numel = s.size hg.axis'} {sem : DmaSem sig}
    {hp hp' : c.2.kind = .scVector} {hsrc hsrc' hw hw' : src.view.WordExact} {he he' : e.bits = 32} {hsp hsp' : sp = .hbm ∨ sp = .shared} {hr hr' : s₀.StreamRows a}
    {hdA : dstA.view.WordExact} {hdB : dstB.view.WordExact}
    {k : PUnit → Prog (TpuEff nD τ sig (Elt F) Λ c.2) α}
    {q qA qB : PosShare TreeShare} {fs : Buf (Elt F) (src.view.loc c)} {fA : Buf (Elt F) (dstA.view.loc c)} {fB : Buf (Elt F) (dstB.view.loc c)}
    {foA : Buf (Elt F) (offsA.view.loc c)} {foB : Buf (Elt F) (offsB.view.loc c)}
    (ι : Ix) (N : ℕ) (hN0 : 0 < N)
    (hNA : ∀ i, (dstA.slice (s.rowRect hg.axis' i) (s.stride_rowRect hg.axis' i)).view.dmaCredit = N)
    (hNB : ∀ i, (dstB.slice (s.rowRect hg.axis' i) (s.stride_rowRect hg.axis' i)).view.dmaCredit = N)
    (hwA : dstA.view.dmaCredit = s.size hg.axis' * N) (hwB : dstB.view.dmaCredit = s.size hg.axis' * N)
    (ho : 0 < s.size hg.axis')
    (hinA : ∀ x, (offsA.view.read (Elt F) foA x).toNat < s₀.size hg.axis) (hinB : ∀ x, (offsB.view.read (Elt F) foB x).toNat < s₀.size hg.axis)
    {O : CellTallies nD τ sig Ix} {W : Waits sig Ix} :
    iprop((src.view.loc c ↦[src.view.set]{q} fs) ∗ (dstA.view.loc c ↦[dstA.view.set]{fullShare} fA) ∗ (dstB.view.loc c ↦[dstB.view.set]{fullShare} fB)
        ∗ (offsA.view.loc c ↦[offsA.view.set]{qA} foA) ∗ (offsB.view.loc c ↦[offsB.view.set]{qB} foB)
        ∗ semVal (c, SemLoc.dma sem) 0 ∗ owes c O W ∗ MayWaits c ι O)
      ⊢ iprop((iprop((src.view.loc c ↦[src.view.set]{q} fs)
                ∗ (dstA.view.loc c ↦[dstA.view.set]{fullShare}
                    (dstA.view.write (Elt F) fA (gatherPayload hg (src.view.read (Elt F) fs) (rows (offsA.view.read (Elt F) foA) hn hinA)) Finset.univ))
                ∗ (dstB.view.loc c ↦[dstB.view.set]{fullShare}
                    (dstB.view.write (Elt F) fB (gatherPayload hg (src.view.read (Elt F) fs) (rows (offsB.view.read (Elt F) foB) hn hinB)) Finset.univ))
                ∗ (offsA.view.loc c ↦[offsA.view.set]{qA} foA) ∗ (offsB.view.loc c ↦[offsB.view.set]{qB} foB)
                ∗ semVal (c, SemLoc.dma sem) 0 ∗ owes c O (insert (SemLoc.dma sem, ι) (insert (SemLoc.dma sem, ι) W)))
              -∗ wp frame (wpE defs 𝒱 c bd) Set.univ (k ⟨⟩) Q)
          -∗ wp frame (wpE defs 𝒱 c bd) Set.univ
              (enqueueIndirectGather hp src dstA hg offsA hn sem hsrc he hsp hr >>= fun _ =>
                enqueueIndirectGather hp' src dstB hg offsB hn sem hsrc' he' hsp' hr' >>= fun _ =>
                waitIndirectGather sem src dstA hw hdA >>= fun _ =>
                waitIndirectGather sem src dstB hw' hdB >>= k) Q) := by
  iintro ⟨Hs, HA, HB, HoA, HoB, Hv, HO, #Hmw⟩ Hk
  imod (batch_alloc' EC c (sm := .dma sem) ι N
    (twoOf (rowLanded (Ix := Ix) (Name := Name) (U := U) (Lvl := Lvl) c src dstA hg offsA hn ho (pieceOf q 2 (by omega) 0) qA fs fA foA (rows (offsA.view.read (Elt F) foA) hn hinA))
      (rowLanded (Ix := Ix) (Name := Name) (U := U) (Lvl := Lvl) c src dstB hg offsB hn ho (pieceOf q 2 (by omega) 1) qB fs fB foB (rows (offsB.view.read (Elt F) foB) hn hinB)))) $$ Hv with Hb
  ihave Hs' := (Entails.of_eq (pointsTo_halves src.view.set q fs)) $$ Hs
  icases Hs' with ⟨Hs0, Hs1⟩
  iapply (wp_gatherBatch EC 𝒱 c bd ι N hNA ho (n := s.size hg.axis' + s.size hg.axis') (j := 0) (u := 0) hinA (by omega) (by omega) (fun i => Entails.of_eq (twoOf_left _ _ i _).symm)) $$ [Hs0 HA HoA Hb]
  · isplitl [Hs0]; · iexact Hs0
    isplitl [HA]; · iexact HA
    isplitl [HoA] <;> iassumption
  iintro Hb
  iapply (wp_gatherBatch EC 𝒱 c bd ι N hNB ho (n := s.size hg.axis' + s.size hg.axis') (j := 0 + s.size hg.axis') (u := 0) hinB (by omega) (by omega) (fun i => Entails.of_eq (twoOf_right _ _ i _).symm)) $$ [Hs1 HB HoB Hb]
  · isplitl [Hs1]; · iexact Hs1
    isplitl [HB]; · iexact HB
    isplitl [HoB] <;> iassumption
  iintro Hb
  rw [Nat.zero_add]
  iapply (wp_waitBatchMulO EC 𝒱 c bd ι (n := s.size hg.axis' + s.size hg.axis') (j := s.size hg.axis' + s.size hg.axis') (u := 0) (s.size hg.axis') hwA (by rw [Nat.mul_add, Nat.mul_comm N]; omega)) $$ [Hb HO]
  · isplitl [Hb]; · iexact Hb
    isplitl [HO]; · iexact HO
    iapply (MayWaits.elim (SemLoc.dma sem)) $$ Hmw
  iintro ⟨Hb, HO⟩
  iapply (wp_waitBatchAllO EC 𝒱 c bd ι (n := s.size hg.axis' + s.size hg.axis') (u := 0 + s.size hg.axis' * N) hwB hN0 (by rw [Nat.mul_add, Nat.mul_comm N]; omega)) $$ [Hb HO]
  · isplitl [Hb]; · iexact Hb
    isplitl [HO]; · iexact HO
    iapply (MayWaits.elim (SemLoc.dma sem)) $$ Hmw
  iintro ⟨HD, Hv, HO⟩
  ihave HD' := (Entails.of_eq (bigSep_twoOf _ _)) $$ HD
  icases HD' with ⟨HDA, HDB⟩
  ihave HA := (rowsLanded_join c src dstA hg offsA hn ho _ qA fs fA foA _) $$ HDA
  ihave HB := (rowsLanded_join c src dstB hg offsB hn ho _ qB fs fB foB _) $$ HDB
  icases HA with ⟨HA, Hs0, HoA⟩
  icases HB with ⟨HB, Hs1, HoB⟩
  ihave Hs := (Entails.of_eq (pointsTo_halves src.view.set q fs).symm) $$ [Hs0 Hs1]
  · isplitl [Hs0] <;> iassumption
  iapply Hk
  isplitl [Hs]; · iexact Hs
  isplitl [HA]; · iexact HA
  isplitl [HB]; · iexact HB
  isplitl [HoA]; · iexact HoA
  isplitl [HoB]; · iexact HoB
  isplitl [Hv] <;> iassumption

end Cert.GatherBatch

end
-- ==== Proof.TileProgI.lean ====
/-
  The SparseCore body as a prelude and thirteen chunks

  The gather kernel's body on one tile is: copy the tile's indices in, turn them into table rows (a counted loop), then
  thirteen chunks of 256 rows each.  A chunk gathers its two halves into one slot of the row buffer, waits for both, and
  starts the store of the slot.  From the third chunk on, the slot's previous store is waited for first; the last two
  stores are waited for at the end.  `body_eq` says the printed body is this program, by definition.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.I

open Cert.KernelIdeal Cert.KernelIdeal.Gen
open Idealize.ShloMosaic Idealize.SL.Sem

variable {F : FTy → Type} [FloatOps F]

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

theorem half_inb (b s : Fin 2) : ∀ a, ![b.val, 128 * s.val, 0] a + S1x128x128.size a ≤ S2x256x128.size a := by
  revert b s; decide
theorem slab_inb (b : Fin 2) : ∀ a, ![b.val, 0, 0] a + S1x256x128.size a ≤ S2x256x128.size a := by
  revert b; decide
theorem lst_inb (g : Fin 26) : ∀ a, ![g.val, 0] a + S1x128.size a ≤ S26x128.size a := by
  revert g; decide
theorem tbl_inb : ∀ a, ![0, 0] a + S26000x128.size a ≤ S26000x128.size a := by decide

/-- Half `s` of slot `b` of the row buffer. -/
abbrev half (b s : Fin 2) : Memref sig .scVector .vmem S128x128 .f32 :=
  ((rV).slice (Rect.unit (s := S2x256x128) ![b.val, 128 * s.val, 0] S1x128x128.size (half_inb b s)) (fun _ => rfl)).squeeze S128x128 squeezes_S1x128x128_S128x128
/-- Slot `b` of the row buffer. -/
abbrev slab (b : Fin 2) : Memref sig .scVector .vmem S256x128 .f32 :=
  ((rV).slice (Rect.unit (s := S2x256x128) ![b.val, 0, 0] S1x256x128.size (slab_inb b)) (fun _ => rfl)).squeeze S256x128 squeezes_S1x256x128_S256x128
/-- List `g` of table rows. -/
abbrev lst (g : Fin 26) : Memref sig .scVector .vmem S128 .i32 :=
  ((iV).slice (Rect.unit (s := S26x128) ![g.val, 0] S1x128.size (lst_inb g)) (fun _ => rfl)).squeeze S128 squeezes_S1x128_S128
/-- The table, as the gathers name it. -/
abbrev tbl : Memref sig .scVector .hbm S26000x128 .f32 :=
  (tV).slice (Rect.unit (s := S26000x128) ![0, 0] S26000x128.size tbl_inb) (fun _ => rfl)
/-- The 256 output rows of tile `i`'s chunk `c`. -/
abbrev outc (i : grid0.Coords) (c : Fin 13) : Memref sig .scVector .hbm S256x128 .f32 :=
  (oV).slice (Rect.unit (s := S106496x128) (k0_off11 i (BitVec.ofNat 32 (256 * c.val))) S256x128.size (k0_off11_inb i c)) (fun _ => rfl)
/-- The slot a chunk uses. -/
abbrev par (c : Fin 13) : Fin 2 := ⟨c.val % 2, Nat.mod_lt _ (by decide)⟩
/-- The list for half `s` of chunk `c`. -/
abbrev lidx (c : Fin 13) (s : Fin 2) : Fin 26 := ⟨2 * c.val + s.val, by omega⟩
/-- The semaphore of the stores out of slot `b`. -/
abbrev stSem : Fin 2 → DmaSem sig
  | 0 => cc0_scratch4.sem
  | 1 => cc0_scratch5.sem

abbrev TP (F : FTy → Type) [FloatOps F] (i : grid0.Coords) (α : Type) : Type 1 :=
  Prog (TpuEff nD τ sig (Elt F) Λ₀ (.scVector ((i 0).castLE hcore0) ((i 1).castLE hsub0))) α

/-- Wait for chunk `c`'s store, then go on. -/
def waitK (i : grid0.Coords) (c : Fin 13) (k : PUnit → TP F i PUnit) : TP F i PUnit :=
  .op (.waitDma2 (stSem (par c)) (slab (par c)) (outc i c) ((View.wordExact_bits rfl).reshape _ _) (View.wordExact_bits rfl)) k

/-- Chunk `c`: two gathers, their waits, the store's start; then go on. -/
def chunkK (i : grid0.Coords) (c : Fin 13) (k : PUnit → TP F i PUnit) : TP F i PUnit :=
  SparseCore.enqueueIndirectGather rfl tbl (half (par c) 0) gathers_S26000x128_S128x128 (lst (lidx c 0)) rfl cc0_scratch3.sem (View.wordExact_bits rfl) rfl (Or.inl rfl) >>= fun _ =>
  SparseCore.enqueueIndirectGather rfl tbl (half (par c) 1) gathers_S26000x128_S128x128 (lst (lidx c 1)) rfl cc0_scratch3.sem (View.wordExact_bits rfl) rfl (Or.inl rfl) >>= fun _ =>
  SparseCore.waitIndirectGather cc0_scratch3.sem tbl (half (par c) 0) (View.wordExact_bits rfl) ((View.wordExact_bits rfl).reshape _ _) >>= fun _ =>
  SparseCore.waitIndirectGather cc0_scratch3.sem tbl (half (par c) 1) (View.wordExact_bits rfl) ((View.wordExact_bits rfl).reshape _ _) >>= fun _ =>
  .op (.enqueueDma (slab (par c)) (.here (outc i c)) (.dma (stSem (par c))) ((View.wordExact_bits rfl).reshape _ _) (View.wordExact_bits rfl) ⟨Or.inl rfl, trivial⟩) k

/-- The chunks from the `n`-th last on, then the waits for the last two stores. -/
def tailK (i : grid0.Coords) : (n : ℕ) → n ≤ 11 → TP F i PUnit
  | 0, _ => waitK i 12 fun _ => waitK i 11 fun _ => .ret ⟨⟩
  | n + 1, h => waitK i ⟨10 - n, by omega⟩ fun _ => chunkK i ⟨12 - n, by omega⟩ fun _ => tailK i n (by omega)

/-- The tile's first output row, as the body computes it. -/
def baseW (i : grid0.Coords) : BitVec 32 :=
  Scalar.muli (Scalar.addi (Scalar.muli (BitVec.ofNat 32 (i 1).val) 2#32) (BitVec.ofNat 32 (i 0).val)) 3328#32

abbrev xblk (i : grid0.Coords) : Memref sig .scVector .hbm S3328 .i32 :=
  (xV).slice (Rect.unit (s := S106496) (k0_off1 i) S3328.size (k0_off1_inb i)) (fun _ => rfl)

/-- The body's loop over the 26 lists. -/
def loopP (i : grid0.Coords) : TP F i (BitVec 32) :=
  Scf.Loop.for k0_t1_loop k0_t1_ok 0#32 (k0_t1_body i xV (Memref.isWhole_whole _) tV (Memref.isWhole_whole _) oV (Memref.isWhole_whole _) aV (Memref.isWhole_whole _)
    iV (Memref.isWhole_whole _) rV (Memref.isWhole_whole _) cc0_scratch3 cc0_scratch4 cc0_scratch5 cc0_scoped0 (baseW i))

/-- The whole body. -/
def bodyK (i : grid0.Coords) : TP F i PUnit :=
  .op (.enqueueDma (xblk i) (.here aV) (.dma cc0_scoped0.sem) (View.wordExact_bits rfl) (Memref.isWhole_whole cc0_scratch0).wordExact ⟨Or.inl rfl, trivial⟩) fun _ =>
  .op (.waitDma2 cc0_scoped0.sem (xblk i) aV (View.wordExact_bits rfl) (Memref.isWhole_whole cc0_scratch0).wordExact) fun _ =>
  loopP i >>= fun _ => chunkK i 0 fun _ => chunkK i 1 fun _ => tailK i 11 (by omega)

/-- What follows the loop in the first part of the body. -/
def afterLoop (i : grid0.Coords) : TP F i (BitVec 32) :=
  SparseCore.enqueueIndirectGather rfl tbl (half 0 0) gathers_S26000x128_S128x128 (lst 0) rfl cc0_scratch3.sem (View.wordExact_bits rfl) rfl (Or.inl rfl) >>= fun _ =>
  SparseCore.enqueueIndirectGather rfl tbl (half 0 1) gathers_S26000x128_S128x128 (lst 1) rfl cc0_scratch3.sem (View.wordExact_bits rfl) rfl (Or.inl rfl) >>= fun _ =>
  SparseCore.waitIndirectGather cc0_scratch3.sem tbl (half 0 0) (View.wordExact_bits rfl) ((View.wordExact_bits rfl).reshape _ _) >>= fun _ =>
  .ret (baseW i)

theorem part6_eq (i : grid0.Coords) :
    k0_part6 (F := F) i xV (Memref.isWhole_whole _) tV (Memref.isWhole_whole _) oV (Memref.isWhole_whole _) aV (Memref.isWhole_whole _)
      iV (Memref.isWhole_whole _) rV (Memref.isWhole_whole _) cc0_scratch3 cc0_scratch4 cc0_scratch5 cc0_scoped0
      = .op (.enqueueDma (xblk i) (.here aV) (.dma cc0_scoped0.sem) (View.wordExact_bits rfl) (Memref.isWhole_whole cc0_scratch0).wordExact ⟨Or.inl rfl, trivial⟩) fun _ =>
        .op (.waitDma2 cc0_scoped0.sem (xblk i) aV (View.wordExact_bits rfl) (Memref.isWhole_whole cc0_scratch0).wordExact) fun _ =>
        loopP i >>= fun _ => afterLoop i := by
  rw [k0_part6_eq_skeleton]
  rfl

/-- What follows the first part. -/
def rest (i : grid0.Coords) : BitVec 32 → TP F i PUnit := fun v2 => do
  k0_part7 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part8 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part9 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part10 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0
  k0_part11 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part12 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part13 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part14 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0
  k0_part15 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part16 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part17 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part18 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0
  k0_part19 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part20 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part21 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0
  k0_part22 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  k0_part23 i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 v2
  waitK i 11 fun _ => .ret ⟨⟩

set_option maxRecDepth 65536 in
theorem tail_eq (i : grid0.Coords) :
    (afterLoop (F := F) i >>= fun v2 => rest i v2) = chunkK i 0 fun _ => chunkK i 1 fun _ => tailK i 11 (by omega) := by
  rfl

set_option maxRecDepth 65536 in
theorem body_eq (i : grid0.Coords) :
    cc0__sc_gather_body (F := F) i xV (Memref.isWhole_whole _) tV (Memref.isWhole_whole _) oV (Memref.isWhole_whole _) aV (Memref.isWhole_whole _)
      iV (Memref.isWhole_whole _) rV (Memref.isWhole_whole _) cc0_scratch3 cc0_scratch4 cc0_scratch5 cc0_scoped0 = bodyK i := by
  have h : cc0__sc_gather_body (F := F) i xV (Memref.isWhole_whole _) tV (Memref.isWhole_whole _) oV (Memref.isWhole_whole _) aV (Memref.isWhole_whole _)
      iV (Memref.isWhole_whole _) rV (Memref.isWhole_whole _) cc0_scratch3 cc0_scratch4 cc0_scratch5 cc0_scoped0
      = (k0_part6 (F := F) i xV (Memref.isWhole_whole _) tV (Memref.isWhole_whole _) oV (Memref.isWhole_whole _) aV (Memref.isWhole_whole _) iV (Memref.isWhole_whole _) rV (Memref.isWhole_whole _) cc0_scratch3 cc0_scratch4 cc0_scratch5 cc0_scoped0 >>= fun v2 => rest i v2) := by
    rw [cc0__sc_gather_body_eq_skeleton]; rfl
  rw [h, part6_eq]
  change (Prog.op _ fun _ => Prog.op _ fun _ => (loopP i >>= fun _ => afterLoop i) >>= fun v2 => rest i v2) = _
  simp only [bind_assoc]
  rw [tail_eq]; rfl

end Cert.Proof.I
-- ==== Proof.TileValI.lean ====
/-
  What the gather kernel leaves, element by element

  `rowsV x t` is the kernel's output: row `p` is the table's row for word `p` of the indices, the word offset by its
  field's block of the table (`idxW`).  The lemmas place the elements of the views the body uses: a half of a slot, a
  slot, a list, a chunk's output rows.
-/
module

public import proofs.«01_k».proof.Proof.TileProgI
public import Idealize.ShloMosaic.Lib.ValueIdxCore

@[expose] public section

noncomputable section

namespace Cert.Proof.I

open Cert.KernelIdeal Cert.KernelIdeal.Gen
open Idealize.ShloMosaic Idealize.ShloMosaic.ValueIdx

variable {F : FTy → Type} [FloatOps F]

local notation "xV" => (Memref.whole Cert.KernelIdeal.main_v2_scv : Memref Cert.KernelIdeal.sig Kind.scVector Space.hbm Cert.KernelIdeal.S106496 EltTy.i32)
local notation "oV" => (Memref.whole Cert.KernelIdeal.main_v3_scv : Memref Cert.KernelIdeal.sig Kind.scVector Space.hbm Cert.KernelIdeal.S106496x128 EltTy.f32)

/-- Word `p` of the indices, offset into the block of the table that its field owns. -/
def idxW (x : S106496.Idx → BitVec 32) (p : Fin 106496) : BitVec 32 := x (ix1 p) + BitVec.ofNat 32 (p.val % 26 * 1000)

/-- Every offset word names a row of the table. -/
def IdxOK (x : S106496.Idx → BitVec 32) : Prop := ∀ p, (idxW x p).toNat < 26000

/-- The gathered rows. -/
def rowsV (x : S106496.Idx → BitVec 32) (t : S26000x128.Idx → Elt F .f32) : S106496x128.Idx → Elt F .f32 :=
  fun p => t (ix2 ⟨(idxW x (p 0)).toNat % 26000, Nat.mod_lt _ (by decide)⟩ (p 1))

/-- The first output row of tile `i`. -/
def base (i : grid0.Coords) : ℕ := 6656 * (i 1).val + 3328 * (i 0).val

theorem base_le (i : grid0.Coords) : base i + 3328 ≤ 106496 := by
  have h0 : (i 0).val < 2 := (i 0).isLt
  have h1 : (i 1).val < 16 := (i 1).isLt
  unfold base; omega

/-- The lists of table rows of tile `i`: entry `l` of list `g` is for output row `base i + 128 * g + l`. -/
def listsV (i : grid0.Coords) (x : S106496.Idx → BitVec 32) : S26x128.Idx → BitVec 32 := fun j =>
  idxW x ⟨base i + 128 * (j 0).val + (j 1).val, by
    have h0 : (j 0).val < 26 := (j 0).isLt
    have h1 : (j 1).val < 128 := (j 1).isLt
    have := base_le i; omega⟩

/-- What a slot holds once chunk `c`'s gathers have landed, at every slot. -/
def slotV (i : grid0.Coords) (c : Fin 13) (x : S106496.Idx → BitVec 32) (t : S26000x128.Idx → Elt F .f32) : S2x256x128.Idx → Elt F .f32 := fun p =>
  rowsV x t (ix2 ⟨base i + 256 * c.val + (p 1).val, by
    have h1 : (p 1).val < 256 := (p 1).isLt
    have := base_le i; omega⟩ (p 2))

theorem half_emb (b s : Fin 2) (y : S128x128.Idx) : (half b s).view.emb y
    = (ix3 b ⟨128 * s.val + (y 0).val, by have : (y 0).val < 128 := (y 0).isLt; omega⟩ (y 1) : S2x256x128.Idx) := by
  change (Rect.unit (s := S2x256x128) ![b.val, 128 * s.val, 0] S1x128x128.size (half_inb b s)).emb (Shape.reshapeEquiv _ y) = _
  rw [Shape.reshapeEquiv_cons_one (d := ![128, 128])]
  funext a; apply Fin.ext; rw [Rect.emb_apply]
  match a with
  | 0 => change b.val + 1 * 0 = b.val; omega
  | 1 => change 128 * s.val + 1 * (y 0).val = 128 * s.val + (y 0).val; omega
  | 2 => change 0 + 1 * (y 1).val = (y 1).val; omega

theorem slab_emb (b : Fin 2) (y : S256x128.Idx) : (slab b).view.emb y = (ix3 b (y 0) (y 1) : S2x256x128.Idx) := by
  change (Rect.unit (s := S2x256x128) ![b.val, 0, 0] S1x256x128.size (slab_inb b)).emb (Shape.reshapeEquiv _ y) = _
  rw [Shape.reshapeEquiv_cons_one (d := ![256, 128])]
  funext a; apply Fin.ext; rw [Rect.emb_apply]
  match a with
  | 0 => change b.val + 1 * 0 = b.val; omega
  | 1 => change 0 + 1 * (y 0).val = (y 0).val; omega
  | 2 => change 0 + 1 * (y 1).val = (y 1).val; omega

theorem lst_emb (g : Fin 26) (y : S128.Idx) : (lst g).view.emb y = (ix2 g (y 0) : S26x128.Idx) := by
  change (Rect.unit (s := S26x128) ![g.val, 0] S1x128.size (lst_inb g)).emb (Shape.reshapeEquiv _ y) = _
  rw [Shape.reshapeEquiv_cons_one (d := ![128])]
  funext a; apply Fin.ext; rw [Rect.emb_apply]
  match a with
  | 0 => change g.val + 1 * 0 = g.val; omega
  | 1 => change 0 + 1 * (y 0).val = (y 0).val; omega

theorem tbl_emb (y : S26000x128.Idx) : tbl.view.emb y = y := by
  change (Rect.unit (s := S26000x128) ![0, 0] S26000x128.size tbl_inb).emb y = _
  funext a; apply Fin.ext; rw [Rect.emb_apply]
  match a with
  | 0 => change 0 + 1 * (y 0).val = (y 0).val; omega
  | 1 => change 0 + 1 * (y 1).val = (y 1).val; omega

theorem outc_emb (i : grid0.Coords) (c : Fin 13) (y : S256x128.Idx) : (outc i c).view.emb y
    = (ix2 ⟨base i + 256 * c.val + (y 0).val, by
        have : (y 0).val < 256 := (y 0).isLt
        have := base_le i; omega⟩ (y 1) : S106496x128.Idx) := by
  change (Rect.unit (s := S106496x128) (k0_off11 i (BitVec.ofNat 32 (256 * c.val))) S256x128.size (k0_off11_inb i c)).emb y = _
  funext a; apply Fin.ext; rw [Rect.emb_apply]
  have ho : (Rect.unit (s := S106496x128) (k0_off11 i (BitVec.ofNat 32 (256 * c.val))) S256x128.size (k0_off11_inb i c)).off a
      = (![6656 * (i 1).val + 3328 * (i 0).val + 256 * c.val, 0] : Fin 2 → ℕ) a := congrFun (k0_off11_eq i c) a
  rw [ho]
  match a with
  | 0 => change 6656 * (i 1).val + 3328 * (i 0).val + 256 * c.val + 1 * (y 0).val = base i + 256 * c.val + (y 0).val; unfold base; omega
  | 1 => change 0 + 1 * (y 1).val = (y 1).val; omega

theorem xblk_emb (i : grid0.Coords) (y : S3328.Idx) : (xblk i).view.emb y
    = (ix1 ⟨base i + (y 0).val, by
        have : (y 0).val < 3328 := (y 0).isLt
        have := base_le i; omega⟩ : S106496.Idx) := by
  change (Rect.unit (s := S106496) (k0_off1 i) S3328.size (k0_off1_inb i)).emb y = _
  funext a; apply Fin.ext; rw [Rect.emb_apply]
  have ho : (Rect.unit (s := S106496) (k0_off1 i) S3328.size (k0_off1_inb i)).off a
      = (![6656 * (i 1).val + 3328 * (i 0).val] : Fin 1 → ℕ) a := congrFun (k0_off1_eq i) a
  rw [ho]
  match a with
  | 0 => change 6656 * (i 1).val + 3328 * (i 0).val + 1 * (y 0).val = base i + (y 0).val; unfold base; omega

theorem set_half (b s : Fin 2) : (half b s).view.set = (Rect.unit (s := S2x256x128) ![b.val, 128 * s.val, 0] S1x128x128.size (half_inb b s)).set :=
  (View.set_reshape _ _).trans (View.set_slice_whole _ _)
theorem set_slab (b : Fin 2) : (slab b).view.set = (Rect.unit (s := S2x256x128) ![b.val, 0, 0] S1x256x128.size (slab_inb b)).set :=
  (View.set_reshape _ _).trans (View.set_slice_whole _ _)
theorem set_lst (g : Fin 26) : (lst g).view.set = (Rect.unit (s := S26x128) ![g.val, 0] S1x128.size (lst_inb g)).set :=
  (View.set_reshape _ _).trans (View.set_slice_whole _ _)
theorem set_tbl : tbl.view.set = (Finset.univ : Finset S26000x128.Idx) := by
  refine Finset.eq_univ_of_forall fun p => ?_
  rw [← tbl_emb p]; exact Finset.mem_map_of_mem _ (Finset.mem_univ p)
theorem set_outc (i : grid0.Coords) (c : Fin 13) :
    (outc i c).view.set = (Rect.unit (s := S106496x128) (k0_off11 i (BitVec.ofNat 32 (256 * c.val))) S256x128.size (k0_off11_inb i c)).set :=
  View.set_slice_whole _ _

theorem mem_half (b s : Fin 2) (p : S2x256x128.Idx) :
    p ∈ (half b s).view.set ↔ (p 0).val = b.val ∧ 128 * s.val ≤ (p 1).val ∧ (p 1).val < 128 * s.val + 128 := by
  have h2 : (p 2).val < 128 := (p 2).isLt
  rw [set_half, Rect.mem_set_unit]
  constructor
  · intro h
    have h0 := h 0; have h1 := h 1
    change b.val ≤ (p 0).val ∧ (p 0).val < b.val + 1 at h0
    change 128 * s.val ≤ (p 1).val ∧ (p 1).val < 128 * s.val + 128 at h1
    omega
  · intro h a
    match a with
    | 0 => change b.val ≤ (p 0).val ∧ (p 0).val < b.val + 1; omega
    | 1 => change 128 * s.val ≤ (p 1).val ∧ (p 1).val < 128 * s.val + 128; omega
    | 2 => change 0 ≤ (p 2).val ∧ (p 2).val < 0 + 128; omega

theorem mem_slab (b : Fin 2) (p : S2x256x128.Idx) : p ∈ (slab b).view.set ↔ (p 0).val = b.val := by
  have h1 : (p 1).val < 256 := (p 1).isLt
  have h2 : (p 2).val < 128 := (p 2).isLt
  rw [set_slab, Rect.mem_set_unit]
  constructor
  · intro h
    have h0 := h 0
    change b.val ≤ (p 0).val ∧ (p 0).val < b.val + 1 at h0
    omega
  · intro h a
    match a with
    | 0 => change b.val ≤ (p 0).val ∧ (p 0).val < b.val + 1; omega
    | 1 => change 0 ≤ (p 1).val ∧ (p 1).val < 0 + 256; omega
    | 2 => change 0 ≤ (p 2).val ∧ (p 2).val < 0 + 128; omega

theorem mem_outc (i : grid0.Coords) (c : Fin 13) (p : S106496x128.Idx) :
    p ∈ (outc i c).view.set ↔ base i + 256 * c.val ≤ (p 0).val ∧ (p 0).val < base i + 256 * c.val + 256 := by
  have h1 : (p 1).val < 128 := (p 1).isLt
  rw [set_outc, Rect.mem_set_unit]
  simp only [k0_off11_eq]
  constructor
  · intro h
    have h0 := h 0
    change 6656 * (i 1).val + 3328 * (i 0).val + 256 * c.val ≤ (p 0).val ∧ (p 0).val < 6656 * (i 1).val + 3328 * (i 0).val + 256 * c.val + 256 at h0
    unfold base; omega
  · intro h a
    match a with
    | 0 =>
      change 6656 * (i 1).val + 3328 * (i 0).val + 256 * c.val ≤ (p 0).val ∧ (p 0).val < 6656 * (i 1).val + 3328 * (i 0).val + 256 * c.val + 256
      unfold base at h; omega
    | 1 => change 0 ≤ (p 1).val ∧ (p 1).val < 0 + 128; omega

/-- The two halves of a slot are the slot, -/
theorem slab_halves (b : Fin 2) : (slab b).view.set = ((half b 0).view.set ∪ (half b 1).view.set : Finset S2x256x128.Idx) := by
  ext p
  rw [Finset.mem_union, mem_slab, mem_half, mem_half]
  have h1 : (p 1).val < 256 := (p 1).isLt
  simp only [Fin.val_zero, Fin.val_one]
  omega
/-- and share no element. -/
theorem half_disjoint (b : Fin 2) : Disjoint ((half b 0).view.set : Finset S2x256x128.Idx) (half b 1).view.set := by
  rw [Finset.disjoint_left]; intro p h h'
  rw [mem_half] at h h'
  simp only [Fin.val_zero, Fin.val_one] at h h'
  omega
/-- The two slots are the row buffer, -/
theorem slabs_univ : ((slab 0).view.set ∪ (slab 1).view.set : Finset S2x256x128.Idx) = Finset.univ := by
  refine Finset.eq_univ_of_forall fun p => ?_
  have h0 : (p 0).val < 2 := (p 0).isLt
  rw [Finset.mem_union, mem_slab, mem_slab, Fin.val_zero, Fin.val_one]
  omega
/-- and share no element. -/
theorem slab_disjoint : Disjoint ((slab 0).view.set : Finset S2x256x128.Idx) (slab 1).view.set := by
  rw [Finset.disjoint_left]; intro p h h'
  rw [mem_slab] at h h'
  simp only [Fin.val_zero, Fin.val_one] at h h'
  omega

/-- A list's words, read from the lists. -/
theorem lst_read (i : grid0.Coords) (x : S106496.Idx → BitVec 32) (g : Fin 26) (y : S128.Idx) :
    (lst g).view.read (Elt F) (listsV i x) y = listsV i x (ix2 g (y 0)) := by
  rw [View.read_apply, lst_emb]; rfl

theorem lst_inRange (i : grid0.Coords) {x : S106496.Idx → BitVec 32} (hx : IdxOK x) (g : Fin 26) :
    ∀ y, ((lst g).view.read (Elt F) (listsV i x) y).toNat < S26000x128.size gathers_S26000x128_S128x128.axis := fun y => by
  rw [lst_read]; exact hx _

/-- What a half's gather delivers is the half's part of what the slot is to hold. -/
theorem half_payload (i : grid0.Coords) {x : S106496.Idx → BitVec 32} (hx : IdxOK x) (t : S26000x128.Idx → Elt F .f32) (c : Fin 13) (s : Fin 2)
    (f : S2x256x128.Idx → Elt F .f32) : ∀ p ∈ (half (par c) s).view.set,
    (half (par c) s).view.write (Elt F) f (SparseCore.gatherPayload gathers_S26000x128_S128x128 (tbl.view.read (Elt F) t)
      (SparseCore.rows ((lst (lidx c s)).view.read (Elt F) (listsV i x)) rfl (lst_inRange i hx _))) Finset.univ p = slotV i c x t p := by
  intro p hp
  obtain ⟨y, -, rfl⟩ := Finset.mem_map.mp hp
  rw [View.write_emb_of_mem _ _ (Finset.mem_univ y), half_emb]
  change tbl.view.read (Elt F) t (gathers_S26000x128_S128x128.idx _ y) = _
  rw [View.read_apply, tbl_emb]
  change t _ = _
  unfold slotV rowsV
  refine congrArg t ?_
  have hw : (SparseCore.rows ((lst (lidx c s)).view.read (Elt F) (listsV i x)) rfl (lst_inRange i hx _) (y 0)).val
      = (idxW x ⟨base i + 256 * c.val + (128 * s.val + (y 0).val), by
          have h0 : (y 0).val < 128 := (y 0).isLt
          have := base_le i; omega⟩).toNat := by
    refine (congrArg BitVec.toNat (lst_read (F := F) i x (lidx c s) (S128.rowMajor.symm ((y 0).cast rfl)))).trans ?_
    unfold listsV
    have : (S128.rowMajor.symm ((y 0).cast rfl) 0).val = (y 0).val := by
      have h := Shape.rowMajor_val_one (d := ![128]) (S128.rowMajor.symm ((y 0).cast rfl))
      rw [Equiv.apply_symm_apply] at h
      exact h.symm
    refine congrArg (fun p => (idxW x p).toNat) (Fin.ext ?_)
    change base i + 128 * (2 * c.val + s.val) + (S128.rowMajor.symm ((y 0).cast rfl) 0).val = base i + 256 * c.val + (128 * s.val + (y 0).val)
    rw [this]; omega
  funext a; apply Fin.ext
  match a with
  | 0 =>
    rw [show ((gathers_S26000x128_S128x128.idx (SparseCore.rows ((lst (lidx c s)).view.read (Elt F) (listsV i x)) rfl (lst_inRange i hx _)) y) 0)
        = SparseCore.rows ((lst (lidx c s)).view.read (Elt F) (listsV i x)) rfl (lst_inRange i hx _) (y 0) from
      Shape.Gathers.idx_axis gathers_S26000x128_S128x128 _ y, hw]
    exact (Nat.mod_eq_of_lt (hx _)).symm
  | 1 => exact Shape.Gathers.idx_of_ne gathers_S26000x128_S128x128 _ y 1 (by decide)

/-- What a chunk's store writes is the chunk's part of the output. -/
theorem store_payload (i : grid0.Coords) (x : S106496.Idx → BitVec 32) (t : S26000x128.Idx → Elt F .f32) (c : Fin 13)
    (f : S106496x128.Idx → Elt F .f32) : ∀ p ∈ (outc i c).view.set,
    (outc i c).view.write (Elt F) f ((slab (par c)).view.read (Elt F) (slotV i c x t)) Finset.univ p = rowsV x t p := by
  intro p hp
  obtain ⟨y, -, rfl⟩ := Finset.mem_map.mp hp
  rw [View.write_emb_of_mem _ _ (Finset.mem_univ y), outc_emb]
  change (slab (par c)).view.read (Elt F) (slotV i c x t) y = _
  rw [View.read_apply, slab_emb]
  rfl

end Cert.Proof.I
-- ==== Proof.TileI.lean ====
/-
  A tile of the gather kernel, run once at symbolic coordinates

  `wp_chunk` is one chunk: it spends the slot, the chunk's output rows and the two semaphores at zero, and leaves the
  store in flight, which will deliver the output rows at their final contents and the slot back.
-/
module

public import proofs.«01_k».proof.Proof.TileValI

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
/-- The handshakes' component, the pipeline's, and the transfers' counters. -/
abbrev UU : Type := UH × (UP × Counters)

local notation "𝕄" => MT nD τ sig (HIx 1) (Elt F) ℕ UU ℕ

abbrev EH : Emb UH (MT nD τ sig (HIx 1) (Elt F) ℕ UU ℕ) := embL
/-- The pipeline's component, embedded. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

section Tile

variable (d : Dev nD) (i : grid0.Coords)

abbrev cV (i : grid0.Coords) : Fin τ.nSC := (i 0).castLE hcore0
abbrev jV (i : grid0.Coords) : Fin τ.nSub := (i 1).castLE hsub0
/-- The tile's thread. -/
abbrev thr : Thread nD τ := V d (cV i) (jV i)

/-- What the store of chunk `c` delivers: the chunk's output rows, final, and the slot. -/
def landed (c : Fin 13) (x : S106496.Idx → BitVec 32) (t : S26000x128.Idx → Elt F .f32) : sProp 𝕄 :=
  iprop(((outc i c).view.loc (thr d i) ↦[(outc i c).view.set]{fullShare} rowsV x t)
    ∗ ∃ f, (slab (par c)).view.loc (thr d i) ↦[(slab (par c)).view.set]{fullShare} f)

/-- The store of chunk `c`, in flight. -/
abbrev storing (c : Fin 13) (x : S106496.Idx → BitVec 32) (t : S26000x128.Idx → Elt F .f32) : sProp 𝕄 :=
  Flight countersEmb (thr d i) (.dma (stSem (par c))) (default : HIx 1) (slab (par c)).view.dmaCredit (landed d i c x t)

/-- A slot, as its halves. -/
theorem slab_split (b : Fin 2) (f : S2x256x128.Idx → Elt F .f32) :
    ((slab b).view.loc (thr d i) ↦[(slab b).view.set]{fullShare} f : sProp 𝕄)
      = iprop(((half b 0).view.loc (thr d i) ↦[(half b 0).view.set]{fullShare} f) ∗ ((half b 1).view.loc (thr d i) ↦[(half b 1).view.set]{fullShare} f)) := by
  rw [slab_halves]
  exact BI.Entails.antisymm (pointsTo_union (half_disjoint b)).1 (pointsTo_union (half_disjoint b)).2

/-- The lists' buffer at a share, as one list and the rest. -/
theorem list_split (g : Fin 26) (q : PosShare TreeShare) (f : S26x128.Idx → BitVec 32) :
    ((iV).view.loc (thr d i) ↦{q} f : sProp 𝕄)
      = iprop(((lst g).view.loc (thr d i) ↦[(lst g).view.set]{q} f) ∗ ((iV).view.loc (thr d i) ↦[Finset.univ \ (lst g).view.set]{q} f)) :=
  BI.Entails.antisymm (pointsTo_split_subset (Finset.subset_univ _)).1 (pointsTo_split_subset (Finset.subset_univ _)).2

/-- The lists' buffer, as two shares of it. -/
theorem lists_halves (f : S26x128.Idx → BitVec 32) :
    ((iV).view.loc (thr d i) ↦{fullShare} f : sProp 𝕄)
      = iprop(((iV).view.loc (thr d i) ↦{pieceOf fullShare 2 Nat.two_pos 0} f) ∗ ((iV).view.loc (thr d i) ↦{pieceOf fullShare 2 Nat.two_pos 1} f)) :=
  pointsTo_halves (ℓ := (iV).view.loc (thr d i)) Finset.univ fullShare f

/-- The bits of a row, of a half and of a slot. -/
theorem row_credit (b s : Fin 2) (j : Fin (S128x128.size gathers_S26000x128_S128x128.axis')) :
    ((half b s).slice (S128x128.rowRect gathers_S26000x128_S128x128.axis' j) (S128x128.stride_rowRect gathers_S26000x128_S128x128.axis' j)).view.dmaCredit = 4096 := by
  change RefSig.bitCredit _ _ = _
  have : ∀ j, RefSig.bitCredit (S128x128.rowRect gathers_S26000x128_S128x128.axis' j).shape EltTy.f32 = 4096 := by decide
  exact this j
theorem half_credit (b s : Fin 2) : (half b s).view.dmaCredit = S128x128.size gathers_S26000x128_S128x128.axis' * 4096 := by
  change RefSig.bitCredit _ _ = _
  decide

set_option maxHeartbeats 1000000 in
theorem wp_chunk (c : Fin 13) {x : S106496.Idx → BitVec 32} (hx : IdxOK x) (t : S26000x128.Idx → Elt F .f32) (q : PosShare TreeShare)
    (fr : S2x256x128.Idx → Elt F .f32) (fo : S106496x128.Idx → Elt F .f32)
    {k : PUnit → TP F i PUnit} {Q : PUnit → sProp 𝕄} {O : CellTallies nD τ sig (HIx 1)} {W : Waits sig (HIx 1)} :
    iprop(((tV).view.loc (thr d i) ↦{q} t) ∗ ((iV).view.loc (thr d i) ↦{fullShare} listsV i x)
        ∗ ((slab (par c)).view.loc (thr d i) ↦[(slab (par c)).view.set]{fullShare} fr)
        ∗ ((outc i c).view.loc (thr d i) ↦[(outc i c).view.set]{fullShare} fo)
        ∗ semVal (thr d i, .dma cc0_scratch3.sem) 0 ∗ semVal (thr d i, .dma (stSem (par c))) 0
        ∗ owes (thr d i) O W ∗ MayWaits (thr d i) (default : HIx 1) O)
      ⊢ iprop((iprop(((tV).view.loc (thr d i) ↦{q} t) ∗ ((iV).view.loc (thr d i) ↦{fullShare} listsV i x)
                ∗ semVal (thr d i, .dma cc0_scratch3.sem) 0 ∗ storing d i c x t
                ∗ owes (thr d i) O (insert (SemLoc.dma cc0_scratch3.sem, default) (insert (SemLoc.dma cc0_scratch3.sem, default) W)))
              -∗ wp frame (wpE (defs₀ (F := F)) 𝒱₀ (thr d i) none) Set.univ (k ⟨⟩) Q)
          -∗ wp frame (wpE (defs₀ (F := F)) 𝒱₀ (thr d i) none) Set.univ (chunkK i c k) Q) := by
  iintro ⟨Ht, Hi, Hr, Ho, Hv, Hst, HO, #Hmw⟩ Hk
  ihave Ht' := (Entails.of_eq (show ((tV).view.loc (thr d i) ↦{q} t : sProp 𝕄) = (tbl.view.loc (thr d i) ↦[tbl.view.set]{q} t) by rw [set_tbl])) $$ Ht
  ihave Hi' := (Entails.of_eq (lists_halves d i (listsV i x))) $$ Hi
  icases Hi' with ⟨HiA, HiB⟩
  ihave HiA' := (Entails.of_eq (list_split d i (lidx c 0) _ (listsV i x))) $$ HiA
  icases HiA' with ⟨HiA, HiAr⟩
  ihave HiB' := (Entails.of_eq (list_split d i (lidx c 1) _ (listsV i x))) $$ HiB
  icases HiB' with ⟨HiB, HiBr⟩
  ihave Hr' := (Entails.of_eq (slab_split d i (par c) fr)) $$ Hr
  icases Hr' with ⟨HrA, HrB⟩
  unfold chunkK
  iapply (wp_gatherPair countersEmb 𝒱₀ (thr d i) none (foA := listsV i x) (foB := listsV i x) (offsA := lst (lidx c 0)) (offsB := lst (lidx c 1))
    (default : HIx 1) 4096 (by decide) (row_credit _ _) (row_credit _ _) (half_credit _ _) (half_credit _ _)
    (by decide) (lst_inRange i hx _) (lst_inRange i hx _)) $$ [Ht' HrA HrB HiA HiB Hv HO]
  · isplitl [Ht']; · iexact Ht'
    isplitl [HrA]; · iexact HrA
    isplitl [HrB]; · iexact HrB
    isplitl [HiA]; · iexact HiA
    isplitl [HiB]; · iexact HiB
    isplitl [Hv]; · iexact Hv
    isplitl [HO]; · iexact HO
    iexact Hmw
  iintro ⟨Ht, HrA, HrB, HiA, HiB, Hv, HO⟩
  ihave HrA' := (Entails.of_eq (pointsTo_congr (half_payload i hx t c 0 fr))) $$ HrA
  ihave HrB' := (Entails.of_eq (pointsTo_congr (half_payload i hx t c 1 fr))) $$ HrB
  ihave Hr := (Entails.of_eq (slab_split d i (par c) (slotV i c x t)).symm) $$ [HrA' HrB']
  · isplitl [HrA'] <;> iassumption
  ihave HiA := (Entails.of_eq (list_split d i (lidx c 0) _ (listsV i x)).symm) $$ [HiA HiAr]
  · isplitl [HiA] <;> iassumption
  ihave HiB := (Entails.of_eq (list_split d i (lidx c 1) _ (listsV i x)).symm) $$ [HiB HiBr]
  · isplitl [HiB] <;> iassumption
  ihave Hi := (Entails.of_eq (lists_halves d i (listsV i x)).symm) $$ [HiA HiB]
  · isplitl [HiA] <;> iassumption
  ihave Ht' := (Entails.of_eq (show ((tV).view.loc (thr d i) ↦{q} t : sProp 𝕄) = (tbl.view.loc (thr d i) ↦[tbl.view.set]{q} t) by rw [set_tbl]).symm) $$ Ht
  iapply (Transfers.wp_dmaLocal countersEmb 𝒱₀ (thr d i) none (dst := outc i c) (src := slab (par c)) (default : HIx 1) (slab (par c)).view.dmaCredit rfl (View.dmaCredit_pos _ (by decide)) (Finset.Subset.refl _)) $$ [Hr Ho Hst]
  · isplitl [Hr]; · iexact Hr
    isplitl [Ho]; · iexact Ho
    iexact Hst
  iintro Hfl
  iapply Hk
  isplitl [Ht']; · iexact Ht'
  isplitl [Hi]; · iexact Hi
  isplitl [Hv]; · iexact Hv
  isplitl [Hfl]
  · iapply (Transfers.Flight_mono countersEmb (thr d i) (D' := landed d i c x t) (show _ ⊢ landed d i c x t from by
      unfold landed
      iintro ⟨Ho, Hr⟩
      isplitl [Ho]
      · ihave Ho := (Entails.of_eq (pointsTo_congr (store_payload i x t c fo))) $$ Ho
        iexact Ho
      · iexists _; iexact Hr)) $$ Hfl
  iexact HO

/-- The wait for a chunk's store: the chunk's output rows, the slot and the semaphore's counter at zero. -/
theorem wp_wait (c : Fin 13) {x : S106496.Idx → BitVec 32} {t : S26000x128.Idx → Elt F .f32}
    {k : PUnit → TP F i PUnit} {Q : PUnit → sProp 𝕄} {O : CellTallies nD τ sig (HIx 1)} {W : Waits sig (HIx 1)} :
    iprop(storing d i c x t ∗ owes (thr d i) O W ∗ MayWaits (thr d i) (default : HIx 1) O)
      ⊢ iprop((iprop(landed d i c x t ∗ semVal (thr d i, .dma (stSem (par c))) 0
                ∗ owes (thr d i) O (insert (SemLoc.dma (stSem (par c)), default) W))
              -∗ wp frame (wpE (defs₀ (F := F)) 𝒱₀ (thr d i) none) Set.univ (k ⟨⟩) Q)
          -∗ wp frame (wpE (defs₀ (F := F)) 𝒱₀ (thr d i) none) Set.univ (waitK i c k) Q) := by
  iintro ⟨Hfl, HO, #Hmw⟩ Hk
  unfold waitK
  iapply (Transfers.wp_waitLocalO countersEmb 𝒱₀ (thr d i) none (default : HIx 1) (N := (slab (par c)).view.dmaCredit)
    (rfl : (outc i c).view.dmaCredit = _)) $$ [Hfl HO]
  · isplitl [Hfl]; · iexact Hfl
    isplitl [HO]; · iexact HO
    iapply (Transfers.MayWaits.elim (SemLoc.dma (stSem (par c)))) $$ Hmw
  iexact Hk

/-- A chunk's output rows, final; at any contents. -/
abbrev rowsDone (x : S106496.Idx → BitVec 32) (t : S26000x128.Idx → Elt F .f32) (c : Fin 13) : sProp 𝕄 :=
  (outc i c).view.loc (thr d i) ↦[(outc i c).view.set]{fullShare} rowsV x t
abbrev rowsAny (c : Fin 13) : sProp 𝕄 := iprop(∃ f : S106496x128.Idx → Elt F .f32, (outc i c).view.loc (thr d i) ↦[(outc i c).view.set]{fullShare} f)
abbrev slotAny (b : Fin 2) : sProp 𝕄 := iprop(∃ f : S2x256x128.Idx → Elt F .f32, (slab b).view.loc (thr d i) ↦[(slab b).view.set]{fullShare} f)

/-- The chunks whose stores are over, and those not begun, before `tailK i n`. -/
abbrev overAt (n : ℕ) : Finset (Fin 13) := Finset.univ.filter fun c => c.val < 11 - n
abbrev todoAt (n : ℕ) : Finset (Fin 13) := Finset.univ.filter fun c => 12 - n < c.val

theorem overAt_succ (n : ℕ) (h : n + 1 ≤ 11) : overAt n = insert (⟨10 - n, by omega⟩ : Fin 13) (overAt (n + 1)) := by
  ext c; simp only [Finset.mem_filter, Finset.mem_univ, true_and, Finset.mem_insert, Fin.ext_iff]; omega
theorem not_mem_overAt (n : ℕ) (h : n + 1 ≤ 11) : (⟨10 - n, by omega⟩ : Fin 13) ∉ overAt (n + 1) := by
  simp only [Finset.mem_filter, Finset.mem_univ, true_and]; omega
theorem todoAt_succ (n : ℕ) (h : n + 1 ≤ 11) : todoAt (n + 1) = insert (⟨12 - n, by omega⟩ : Fin 13) (todoAt n) := by
  ext c; simp only [Finset.mem_filter, Finset.mem_univ, true_and, Finset.mem_insert, Fin.ext_iff]; omega
theorem not_mem_todoAt (n : ℕ) (_h : n + 1 ≤ 11) : (⟨12 - n, by omega⟩ : Fin 13) ∉ todoAt n := by
  simp only [Finset.mem_filter, Finset.mem_univ, true_and]; omega

/-- What the body leaves, at the waits `W` it began with. -/
def tailPost (x : S106496.Idx → BitVec 32) (t : S26000x128.Idx → Elt F .f32) (q : PosShare TreeShare)
    (O : CellTallies nD τ sig (HIx 1)) (W : Waits sig (HIx 1)) : sProp 𝕄 :=
  iprop(((tV).view.loc (thr d i) ↦{q} t) ∗ ((iV).view.loc (thr d i) ↦{fullShare} listsV i x)
    ∗ semVal (thr d i, .dma cc0_scratch3.sem) 0 ∗ semVal (thr d i, .dma cc0_scratch4.sem) 0 ∗ semVal (thr d i, .dma cc0_scratch5.sem) 0
    ∗ slotAny (F := F) d i 0 ∗ slotAny (F := F) d i 1 ∗ bigSep Finset.univ (rowsDone d i x t)
    ∗ ∃ W', ⌜∀ p ∈ W', p ∈ W ∨ p.2 = none⌝ ∗ owes (thr d i) O W')

theorem waits_insert {W W' : Waits sig (HIx 1)} {s : SemLoc sig} (h : ∀ p ∈ W', p ∈ W ∨ p.2 = none) :
    ∀ p ∈ insert (s, (default : HIx 1)) W', p ∈ W ∨ p.2 = none := fun p hp => by
  rcases Finset.mem_insert.mp hp with hp | hp
  · exact .inr (hp ▸ rfl)
  · exact h p hp

theorem slot_at {b b' : Fin 2} (e : b = b') (f : S2x256x128.Idx → Elt F .f32) :
    ((slab b).view.loc (thr d i) ↦[(slab b).view.set]{fullShare} f : sProp 𝕄) = (slab b').view.loc (thr d i) ↦[(slab b').view.set]{fullShare} f := by rw [e]
theorem stSem_at {b b' : Fin 2} (e : b = b') : (semVal (thr d i, .dma (stSem b)) 0 : sProp 𝕄) = semVal (thr d i, .dma (stSem b')) 0 := by rw [e]

set_option maxHeartbeats 1000000 in
/-- The rest of the chunks: two stores are in flight before each, and the slot the next one needs is the older store's. -/
theorem wp_tail {x : S106496.Idx → BitVec 32} (hx : IdxOK x) (t : S26000x128.Idx → Elt F .f32) (q : PosShare TreeShare)
    {O : CellTallies nD τ sig (HIx 1)} {W : Waits sig (HIx 1)} :
    ∀ (n : ℕ) (h : n ≤ 11) (W₁ : Waits sig (HIx 1)), (∀ p ∈ W₁, p ∈ W ∨ p.2 = none) →
      iprop(((tV).view.loc (thr d i) ↦{q} t) ∗ ((iV).view.loc (thr d i) ↦{fullShare} listsV i x)
          ∗ semVal (thr d i, .dma cc0_scratch3.sem) 0
          ∗ storing d i ⟨11 - n, by omega⟩ x t ∗ storing d i ⟨12 - n, by omega⟩ x t
          ∗ bigSep (overAt n) (rowsDone d i x t) ∗ bigSep (todoAt n) (rowsAny (F := F) d i)
          ∗ owes (thr d i) O W₁ ∗ MayWaits (thr d i) (default : HIx 1) O)
        ⊢ wp frame (wpE (defs₀ (F := F)) 𝒱₀ (thr d i) none) Set.univ (tailK i n h) fun _ => tailPost d i x t q O W
  | 0, h, W₁, hW₁ => by
    iintro ⟨Ht, Hi, Hv, HsA, HsB, Hover, -, HO, #Hmw⟩
    unfold tailK
    iapply (wp_wait d i 12) $$ [HsB HO]
    · isplitl [HsB]; · iexact HsB
      isplitl [HO]; · iexact HO
      iexact Hmw
    iintro ⟨HB, Hv4, HO⟩
    iapply (wp_wait d i 11) $$ [HsA HO]
    · isplitl [HsA]; · iexact HsA
      isplitl [HO]; · iexact HO
      iexact Hmw
    iintro ⟨HA, Hv5, HO⟩
    unfold landed
    icases HA with ⟨HA, Hr1⟩
    icases HB with ⟨HB, Hr0⟩
    sl_step
    unfold tailPost
    isplitl [Ht]; · iexact Ht
    isplitl [Hi]; · iexact Hi
    isplitl [Hv]; · iexact Hv
    isplitl [Hv4]; · iexact Hv4
    isplitl [Hv5]; · iexact Hv5
    isplitl [Hr0]; · iexact Hr0
    isplitl [Hr1]; · iexact Hr1
    isplitl [HA HB Hover]
    · rw [show (Finset.univ : Finset (Fin 13)) = insert 12 (insert 11 (overAt 0)) by decide,
        SparseCore.bigSep_insert' (show (12 : Fin 13) ∉ insert 11 (overAt 0) by decide), SparseCore.bigSep_insert' (show (11 : Fin 13) ∉ overAt 0 by decide)]
      isplitl [HB]; · iexact HB
      isplitl [HA]; · iexact HA
      iexact Hover
    iexists _
    isplitr
    swap; · iexact HO
    ipureintro; exact waits_insert (waits_insert hW₁)
  | n + 1, h, W₁, hW₁ => by
    have l10 : 10 - n < 13 := by omega
    have l12 : 12 - n < 13 := by omega
    have e10 : (⟨11 - (n + 1), by omega⟩ : Fin 13) = ⟨10 - n, l10⟩ := Fin.ext (by show 11 - (n + 1) = 10 - n; omega)
    have e11 : (⟨12 - (n + 1), by omega⟩ : Fin 13) = ⟨11 - n, by omega⟩ := Fin.ext (by show 12 - (n + 1) = 11 - n; omega)
    have ep : par (⟨12 - n, l12⟩ : Fin 13) = par (⟨10 - n, l10⟩ : Fin 13) := Fin.ext (by show (12 - n) % 2 = (10 - n) % 2; omega)
    rw [e10, e11, todoAt_succ n h, SparseCore.bigSep_insert' (not_mem_todoAt n h)]
    unfold tailK
    iintro ⟨Ht, Hi, Hv, HsA, HsB, Hover, ⟨⟨%fo, Ho⟩, Htodo⟩, HO, #Hmw⟩
    iapply (wp_wait d i ⟨10 - n, l10⟩) $$ [HsA HO]
    · isplitl [HsA]; · iexact HsA
      isplitl [HO]; · iexact HO
      iexact Hmw
    iintro ⟨HA, Hst, HO⟩
    unfold landed
    icases HA with ⟨HA, %fr, Hr⟩
    ihave Hr := (Entails.of_eq (slot_at d i ep.symm fr)) $$ Hr
    ihave Hst := (Entails.of_eq (stSem_at (F := F) d i ep.symm)) $$ Hst
    iapply (wp_chunk d i ⟨12 - n, l12⟩ hx t q fr fo) $$ [Ht Hi Hv Ho Hr Hst HO]
    · isplitl [Ht]; · iexact Ht
      isplitl [Hi]; · iexact Hi
      isplitl [Hr]; · iexact Hr
      isplitl [Ho]; · iexact Ho
      isplitl [Hv]; · iexact Hv
      isplitl [Hst]; · iexact Hst
      isplitl [HO]; · iexact HO
      iexact Hmw
    iintro ⟨Ht, Hi, Hv, HsC, HO⟩
    iapply (wp_tail hx t q n (Nat.le_of_succ_le h) _ (waits_insert (waits_insert (waits_insert hW₁))))
    isplitl [Ht]; · iexact Ht
    isplitl [Hi]; · iexact Hi
    isplitl [Hv]; · iexact Hv
    isplitl [HsB]; · iexact HsB
    isplitl [HsC]; · iexact HsC
    isplitl [HA Hover]
    · rw [overAt_succ n h, SparseCore.bigSep_insert' (not_mem_overAt n h)]
      isplitl [HA] <;> iassumption
    isplitl [Htodo]; · iexact Htodo
    isplitl [HO]; · iexact HO
    iexact Hmw

end Tile

end Cert.Proof.I
-- ==== Proof.LoopI.lean ====
/-
  The loop that turns a tile's indices into lists of table rows

  Trip `g` writes list `g`, in eight stores of sixteen words.  Each word is the index at its place plus 1000 times the
  index's field, which is the remainder by 26 of its place.
-/
module

public import proofs.«01_k».proof.Proof.TileI
public import Idealize.ShloMosaic.Lib.Writes

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

section Tile

variable (d : Dev nD) (i : grid0.Coords)

/-- The tile's indices. -/
def blkV (x : S106496.Idx → BitVec 32) : S3328.Idx → BitVec 32 := fun y =>
  x (ix1 ⟨base i + (y 0).val, by
    have : (y 0).val < 3328 := (y 0).isLt
    have := base_le i; omega⟩)

/-- Before trip `k`: the first `k` lists are written. -/
def linv (x : S106496.Idx → BitVec 32) (k : ℕ) (_ : BitVec 32) : sProp 𝕄 :=
  iprop(((aV).view.loc (thr d i) ↦{fullShare} blkV i x)
    ∗ ∃ f : S26x128.Idx → BitVec 32, ⌜∀ j, (j 0).val < k → f j = listsV i x j⌝ ∗ ((iV).view.loc (thr d i) ↦{fullShare} f))

/-! ## The words a trip stores -/

/-- Sixteen consecutive places from `w`, by 26: the remainder as the kernel computes it. -/
def remV (w : BitVec 32) : IVec S16 32 :=
  remsi (addi (broadcast S16 w) (iota .scVector S16 32 [0] iota_S16_d0_w32_scVector)) (broadcast S16 (Scalar.select (Scalar.cmpi .eq 26#32 0#32) 1#32 26#32))

/-- Sixteen words `v`, each moved into the block of its place's field. -/
def fieldV (w : BitVec 32) (v : Vec F S16 .i32) : IVec S1x16 32 :=
  shapeCast S1x16 (addi (shapeCast S16 v shapeCasts_S16_S16) (muli
    (select (andi (xori (cmpi .slt (remV w) (broadcast S16 0#32))
        (broadcastTo S16 (broadcast S16 (Scalar.cmpi .slt (Scalar.select (Scalar.cmpi .eq 26#32 0#32) 1#32 26#32) 0#32)) broadcasts_S16_S16))
      (cmpi .ne (remV w) (broadcast S16 0#32)))
      (addi (remV w) (broadcast S16 (Scalar.select (Scalar.cmpi .eq 26#32 0#32) 1#32 26#32))) (remV w))
    (broadcast S16 1000#32))) shapeCasts_S16_S1x16

theorem remV_toNat (w : BitVec 32) (n : ℕ) (hw : w.toNat = n) (hn : n < 106496) (y : S16.Idx) :
    (remV w y).toNat = (n + (y 0).val) % 26 := by
  have hy : (y 0).val < 16 := (y 0).isLt
  have hi : iota .scVector S16 32 [0] iota_S16_d0_w32_scVector y = BitVec.ofNat 32 (y 0).val := by
    unfold iota; simp
  have ha : (w + BitVec.ofNat 32 (y 0).val).toNat = n + (y 0).val := by
    rw [BitVec.toNat_add, BitVec.toNat_ofNat, hw]; omega
  change (IntOp.remsi .vector (w + iota .scVector S16 32 [0] iota_S16_d0_w32_scVector y) 26#32).toNat = _
  rw [hi]
  have := IntOp.toNat_remsi .vector (x := w + BitVec.ofNat 32 (y 0).val) (by rw [ha]; omega) 26 (by decide) (by decide)
  rw [this, ha]

theorem fieldV_apply (w : BitVec 32) (n : ℕ) (hw : w.toNat = n) (hn : n < 106496) (v : Vec F S16 .i32) (y : S1x16.Idx) :
    fieldV w v y = v (ix1 (y 1)) + BitVec.ofNat 32 ((n + (y 1).val) % 26 * 1000) := by
  have hr : ∀ z : S16.Idx, remV w z = BitVec.ofNat 32 ((n + (z 0).val) % 26) := fun z => by
    rw [← remV_toNat w n hw hn z, BitVec.ofNat_toNat, BitVec.setWidth_eq]
  have hs : ∀ z : S16.Idx, (remV w z).slt 0#32 = false := fun z => by
    have : (n + (z 0).val) % 26 < 26 := Nat.mod_lt _ (by decide)
    rw [BitVec.slt_eq_decide, decide_eq_false_iff_not, BitVec.toInt_eq_toNat_of_lt (by rw [remV_toNat w n hw hn]; omega)]
    simp
  have hy0 : (y 0).val < 1 := (y 0).isLt
  have hz : (Shape.reshapeEquiv shapeCasts_S16_S1x16 y : S16.Idx) = (ix1 (y 1) : S16.Idx) := by
    have e : (Shape.reshapeEquiv (s := S1x16) (s' := S16) shapeCasts_S16_S1x16.symm (ix1 (y 1) : S16.Idx) : S1x16.Idx) = y := by
      rw [Shape.reshapeEquiv_cons_one (d := ![16])]
      funext a; apply Fin.ext
      match a with
      | 0 => change 0 = (y 0).val; omega
      | 1 => rfl
    have e' := congrArg (Shape.reshapeEquiv (s := S16) (s' := S1x16) shapeCasts_S16_S1x16) e
    rw [Shape.reshapeEquiv_reshapeEquiv, Shape.reshapeEquiv_self] at e'
    exact e'.symm
  have hsel : ∀ z : S16.Idx, Scalar.select (IntOp.andi (IntOp.xori (IntOp.cmpi .slt (remV w z) 0#32) (IntOp.cmpi .slt 26#32 0#32)) (IntOp.cmpi .ne (remV w z) 0#32))
      (remV w z + 26#32) (remV w z) = remV w z := fun z => by
    have h1 : IntOp.cmpi .slt (remV w z) 0#32 = 0#1 := by
      change BitVec.ofBool ((remV w z).slt 0#32) = _; rw [hs]; rfl
    rw [h1, show IntOp.andi (IntOp.xori 0#1 (IntOp.cmpi .slt 26#32 0#32)) (IntOp.cmpi .ne (remV w z) 0#32) = 0#1 from by
      change (0#1 ^^^ 0#1) &&& _ = _; simp]
    rfl
  unfold fieldV shapeCast
  rw [hz]
  change v (Shape.reshapeEquiv _ (ix1 (y 1) : S16.Idx)) + Scalar.select (IntOp.andi (IntOp.xori (IntOp.cmpi .slt (remV w (ix1 (y 1))) 0#32) (IntOp.cmpi .slt 26#32 0#32)) (IntOp.cmpi .ne (remV w (ix1 (y 1))) 0#32))
      (remV w (ix1 (y 1)) + 26#32) (remV w (ix1 (y 1))) * 1000#32 = _
  rw [hsel, Shape.reshapeEquiv_self, hr]
  congr 1
  change BitVec.ofNat 32 ((n + (y 1).val) % 26) * BitVec.ofNat 32 1000 = _
  rw [← BitVec.ofNat_mul]

/-- The place of the first word of a trip's `r`-th store, as the body computes it. -/
def placeW (i : grid0.Coords) (g : Fin k0_t1_loop.trips) (r : BitVec 32) : BitVec 32 :=
  Scalar.addi (baseW i) (Scalar.addi (Scalar.muli (Scf.iv 0#32 1#32 g) 128#32) r)

theorem trips_eq : k0_t1_loop.trips = 26 := rfl

theorem placeW_toNat (i : grid0.Coords) (g : Fin k0_t1_loop.trips) (r : Fin 8) :
    (placeW i g (BitVec.ofNat 32 (16 * r.val))).toNat = base i + 128 * g.val + 16 * r.val := by
  have h0 : (i 0).val < 2 := (i 0).isLt
  have h1 : (i 1).val < 16 := (i 1).isLt
  have hg : g.val < 26 := g.isLt
  have hr := r.isLt
  change ((BitVec.ofNat 32 (i 1).val * 2#32 + BitVec.ofNat 32 (i 0).val) * 3328#32 + ((0#32 + BitVec.ofNat 32 g.val * 1#32) * 128#32 + BitVec.ofNat 32 (16 * r.val))).toNat = _
  simp only [BitVec.toNat_add, BitVec.toNat_mul, BitVec.toNat_ofNat]
  unfold base; omega

/-- What the `r`-th store of trip `g` writes is its part of the lists. -/
theorem piece_ok (x : S106496.Idx → BitVec 32) (g : Fin k0_t1_loop.trips) (r : Fin 8) {off : Fin 2 → ℕ} (hoff : off = ![g.val, 16 * r.val])
    (inb : ∀ a, off a + S1x16.size a ≤ S26x128.size a) (inb' : ∀ a, k0_off2 g (BitVec.ofNat 32 (16 * r.val)) a + S16.size a ≤ S3328.size a) (y : S1x16.Idx) :
    fieldV (F := F) (placeW i g (BitVec.ofNat 32 (16 * r.val)))
        ((aV).view.readAt (Elt F) (Rect.unit (s := S3328) (k0_off2 g (BitVec.ofNat 32 (16 * r.val))) S16.size inb').toLoadRect (blkV i x)) y
      = listsV i x ((Rect.unit (s := S26x128) off S1x16.size inb).emb y) := by
  subst hoff
  have h0 : (y 0).val < 1 := (y 0).isLt
  have h1 : (y 1).val < 16 := (y 1).isLt
  have hg : g.val < 26 := g.isLt
  have hb := base_le i
  rw [fieldV_apply _ _ (placeW_toNat i g r) (by omega)]
  unfold listsV idxW
  have hx : (aV).view.readAt (Elt F) (Rect.unit (s := S3328) (k0_off2 g (BitVec.ofNat 32 (16 * r.val))) S16.size inb').toLoadRect (blkV i x) (ix1 (y 1))
      = x (ix1 ⟨base i + 128 * g.val + (16 * r.val + (y 1).val), by omega⟩) := by
    change blkV i x ((Rect.unit (s := S3328) (k0_off2 g (BitVec.ofNat 32 (16 * r.val))) S16.size inb').emb (ix1 (y 1))) = _
    unfold blkV
    refine congrArg (fun n => x (ix1 n)) (Fin.ext ?_)
    have ho : k0_off2 g (BitVec.ofNat 32 (16 * r.val)) 0 = 128 * g.val + 16 * r.val := congrFun (k0_off2_eq g r) 0
    change base i + (k0_off2 g (BitVec.ofNat 32 (16 * r.val)) 0 + 1 * (y 1).val) = _
    rw [ho]; change _ = base i + 128 * g.val + (16 * r.val + (y 1).val); omega
  have e : (⟨base i + 128 * ((Rect.unit (s := S26x128) ![g.val, 16 * r.val] S1x16.size inb).emb y 0).val
      + ((Rect.unit (s := S26x128) ![g.val, 16 * r.val] S1x16.size inb).emb y 1).val, by
        have e0 : ((Rect.unit (s := S26x128) ![g.val, 16 * r.val] S1x16.size inb).emb y 0).val < 26 := Fin.isLt _
        have e1 : ((Rect.unit (s := S26x128) ![g.val, 16 * r.val] S1x16.size inb).emb y 1).val < 128 := Fin.isLt _
        omega⟩ : Fin 106496)
      = ⟨base i + 128 * g.val + (16 * r.val + (y 1).val), by omega⟩ := Fin.ext (by
    change base i + 128 * (g.val + 1 * (y 0).val) + (16 * r.val + 1 * (y 1).val) = base i + 128 * g.val + (16 * r.val + (y 1).val)
    omega)
  rw [e, hx]
  congr 3
  change (base i + 128 * g.val + 16 * r.val + (y 1).val) % 26 = (base i + 128 * g.val + (16 * r.val + (y 1).val)) % 26
  rw [Nat.add_assoc (base i + 128 * g.val)]

/-- The trip's stores, last first. -/
def pieces (x : S106496.Idx → BitVec 32) (g : Fin k0_t1_loop.trips) : List (View.Piece (Elt F) S26x128 .i32) :=
  let w := fun r : Fin 8 => fieldV (F := F) (placeW i g (BitVec.ofNat 32 (16 * r.val)))
    ((aV).view.readAt (Elt F) (Rect.unit (s := S3328) (k0_off2 g (BitVec.ofNat 32 (16 * r.val))) S16.size (k0_off2_inb g r)).toLoadRect (blkV i x))
  [⟨Rect.unit (s := S26x128) (k0_off10 g) S1x16.size (k0_off10_inb g), w 7⟩, ⟨Rect.unit (s := S26x128) (k0_off9 g) S1x16.size (k0_off9_inb g), w 6⟩,
    ⟨Rect.unit (s := S26x128) (k0_off8 g) S1x16.size (k0_off8_inb g), w 5⟩, ⟨Rect.unit (s := S26x128) (k0_off7 g) S1x16.size (k0_off7_inb g), w 4⟩,
    ⟨Rect.unit (s := S26x128) (k0_off6 g) S1x16.size (k0_off6_inb g), w 3⟩, ⟨Rect.unit (s := S26x128) (k0_off5 g) S1x16.size (k0_off5_inb g), w 2⟩,
    ⟨Rect.unit (s := S26x128) (k0_off4 g) S1x16.size (k0_off4_inb g), w 1⟩, ⟨Rect.unit (s := S26x128) (k0_off3 g) S1x16.size (k0_off3_inb g), w 0⟩]

/-- Each of them is one of eight blocks of list `g`, holding its part of the lists. -/
theorem mem_pieces (x : S106496.Idx → BitVec 32) (g : Fin k0_t1_loop.trips) (p : View.Piece (Elt F) S26x128 .i32) :
    p ∈ pieces i x g → (∀ y, p.2 y = listsV i x (p.1.emb y)) ∧ ∀ j ∈ p.1.set, (j 0).val = g.val := by
  have key : ∀ (r : Fin 8) {off : Fin 2 → ℕ} (hoff : off = ![g.val, 16 * r.val]) (inb : ∀ a, off a + S1x16.size a ≤ S26x128.size a),
      p = ⟨Rect.unit (s := S26x128) off S1x16.size inb, fieldV (F := F) (placeW i g (BitVec.ofNat 32 (16 * r.val)))
        ((aV).view.readAt (Elt F) (Rect.unit (s := S3328) (k0_off2 g (BitVec.ofNat 32 (16 * r.val))) S16.size (k0_off2_inb g r)).toLoadRect (blkV i x))⟩ →
      (∀ y, p.2 y = listsV i x (p.1.emb y)) ∧ ∀ j ∈ p.1.set, (j 0).val = g.val := by
    rintro r off rfl inb rfl
    refine ⟨fun y => piece_ok i x g r rfl inb (k0_off2_inb g r) y, fun j hj => ?_⟩
    have := (Rect.mem_set_unit (s := S26x128) (off := ![g.val, 16 * r.val]) (inb := inb)).mp hj 0
    change g.val ≤ (j 0).val ∧ (j 0).val < g.val + 1 at this
    omega
  intro hp
  simp only [pieces, List.mem_cons, List.not_mem_nil, _root_.or_false] at hp
  rcases hp with h | h | h | h | h | h | h | h
  · exact key 7 (k0_off10_eq g) _ h
  · exact key 6 (k0_off9_eq g) _ h
  · exact key 5 (k0_off8_eq g) _ h
  · exact key 4 (k0_off7_eq g) _ h
  · exact key 3 (k0_off6_eq g) _ h
  · exact key 2 (k0_off5_eq g) _ h
  · exact key 1 (k0_off4_eq g) _ h
  · exact key 0 (k0_off3_eq g) _ h

/-- They cover list `g`. -/
theorem cover_pieces (x : S106496.Idx → BitVec 32) (g : Fin k0_t1_loop.trips) (j : S26x128.Idx) (hj : (j 0).val = g.val) :
    ∃ p ∈ pieces (F := F) i x g, j ∈ p.1.set := by
  have h1 : (j 1).val < 128 := (j 1).isLt
  have key : ∀ (r : Fin 8) {off : Fin 2 → ℕ} (hoff : off = ![g.val, 16 * r.val]) (inb : ∀ a, off a + S1x16.size a ≤ S26x128.size a),
      (j 1).val / 16 = r.val → j ∈ (Rect.unit (s := S26x128) off S1x16.size inb).set := by
    rintro r off rfl inb h
    refine Rect.mem_set_unit.mpr fun a => ?_
    match a with
    | 0 => change g.val ≤ (j 0).val ∧ (j 0).val < g.val + 1; omega
    | 1 => change 16 * r.val ≤ (j 1).val ∧ (j 1).val < 16 * r.val + 16; omega
  have h : (j 1).val / 16 < 8 := by omega
  simp only [pieces, List.mem_cons, List.not_mem_nil, _root_.or_false, exists_eq_or_imp, exists_eq_left]
  interval_cases hq : (j 1).val / 16
  · exact .inr <| .inr <| .inr <| .inr <| .inr <| .inr <| .inr (key 0 (k0_off3_eq g) _ rfl)
  · exact .inr <| .inr <| .inr <| .inr <| .inr <| .inr <| .inl (key 1 (k0_off4_eq g) _ rfl)
  · exact .inr <| .inr <| .inr <| .inr <| .inr <| .inl (key 2 (k0_off5_eq g) _ rfl)
  · exact .inr <| .inr <| .inr <| .inr <| .inl (key 3 (k0_off6_eq g) _ rfl)
  · exact .inr <| .inr <| .inr <| .inl (key 4 (k0_off7_eq g) _ rfl)
  · exact .inr <| .inr <| .inl (key 5 (k0_off8_eq g) _ rfl)
  · exact .inr <| .inl (key 6 (k0_off9_eq g) _ rfl)
  · exact .inl (key 7 (k0_off10_eq g) _ rfl)

/-- Stores that each put the right words in list `n`, and cover it, leave the lists before right and make it right. -/
theorem lists_step (L : List (View.Piece (Elt F) S26x128 .i32)) (G f : S26x128.Idx → BitVec 32) (n : ℕ)
    (hL : ∀ p ∈ L, (∀ y, p.2 y = G (p.1.emb y)) ∧ ∀ j ∈ p.1.set, (j 0).val = n)
    (hc : ∀ j : S26x128.Idx, (j 0).val = n → ∃ p ∈ L, j ∈ p.1.set)
    (hf : ∀ j, (j 0).val < n → f j = G j) (j : S26x128.Idx) (hj : (j 0).val < n + 1) :
    (iV).view.writes (Elt F) f L j = G j := by
  by_cases h : (j 0).val = n
  · exact View.read_writes_apply_of_pieces (iV).view f G L (fun p hp => (hL p hp).1) j (hc j h)
  · have e := View.read_writes_apply_of_forall_not_mem (Val := Elt F) (iV).view f j L fun p hp hm => h ((hL p hp).2 j hm)
    exact e.trans (hf j (by omega))

set_option maxHeartbeats 4000000 in
theorem trip (x : S106496.Idx → BitVec 32) (g : Fin k0_t1_loop.trips) (acc : BitVec 32) :
    linv (F := F) d i x g.val acc
      ⊢ wp frame (wpE (defs₀ (F := F)) 𝒱₀ (thr d i) none) Set.univ
          (k0_t1_body i xV (Memref.isWhole_whole _) tV (Memref.isWhole_whole _) oV (Memref.isWhole_whole _) aV (Memref.isWhole_whole _)
            iV (Memref.isWhole_whole _) rV (Memref.isWhole_whole _) cc0_scratch3 cc0_scratch4 cc0_scratch5 cc0_scoped0 (baseW i) g acc)
          fun acc' => linv (F := F) d i x (g.val + 1) acc' := by
  unfold k0_t1_body
  simp only [k0_part1_eq_skeleton, k0_part2_eq_skeleton, k0_part3_eq_skeleton, k0_part4_eq_skeleton, k0_part5_eq_skeleton]
  unfold linv
  iintro ⟨Ha, %f, %hf, Hi⟩
  sl_exec
  sl_step
  isplitl [Ha]; · iexact Ha
  iexists (iV).view.writes (Elt F) f (pieces i x g)
  isplitr
  · ipureintro; exact lists_step (pieces i x g) (listsV i x) f g.val (mem_pieces i x g) (cover_pieces i x g) hf
  iexact Hi

set_option maxHeartbeats 4000000 in
theorem loop_run (x : S106496.Idx → BitVec 32) (f₀ : S26x128.Idx → BitVec 32) {k : BitVec 32 → TP F i PUnit} {Q : PUnit → sProp 𝕄} :
    iprop(((aV).view.loc (thr d i) ↦{fullShare} blkV i x) ∗ ((iV).view.loc (thr d i) ↦{fullShare} f₀))
      ⊢ iprop((∀ r, iprop(((aV).view.loc (thr d i) ↦{fullShare} blkV i x) ∗ ((iV).view.loc (thr d i) ↦{fullShare} listsV i x))
              -∗ wp frame (wpE (defs₀ (F := F)) 𝒱₀ (thr d i) none) Set.univ (k r) Q)
          -∗ wp frame (wpE (defs₀ (F := F)) 𝒱₀ (thr d i) none) Set.univ (loopP i >>= k) Q) := by
  iintro ⟨Ha, Hi⟩ Hk
  unfold loopP
  sl_for (linv d i x) $$ [Ha Hi]
  case region =>
    intro g acc
    exact trip d i x g acc
  · unfold linv
    isplitl [Ha]; · iexact Ha
    iexists f₀
    isplitr
    · ipureintro; intro j hj; exact absurd hj (Nat.not_lt_zero _)
    iexact Hi
  iintro %r HI
  unfold linv
  icases HI with ⟨Ha, %f, %hf, Hi⟩
  ispecialize Hk $$ %r
  iapply Hk
  isplitl [Ha]; · iexact Ha
  have e : f = listsV i x := funext fun j => hf j (j 0).isLt
  subst e
  iexact Hi

end Tile

end Cert.Proof.I
-- ==== Proof.TileBodyI.lean ====
/-
  One tile of the gather kernel, from its shares of the operands to its output rows

  `tile_body`: a tile holding a share of the indices, a share of the table and its thirteen blocks of output rows runs the
  body and hands the same back, its output rows the gathered ones (`rowsV`).
-/
module

public import proofs.«01_k».proof.Proof.LoopI

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

section Tile

variable (d : Dev nD) (i : grid0.Coords)

/-- What a tile takes, -/
def tileGo (x : S106496.Idx → BitVec 32) (t : S26000x128.Idx → Elt F .f32) (q : PosShare TreeShare) : sProp 𝕄 :=
  iprop(((xV).view.loc (thr d i) ↦{q} x) ∗ ((tV).view.loc (thr d i) ↦{q} t) ∗ bigSep Finset.univ (rowsAny (F := F) d i))
/-- and what it hands back. -/
def tileTd (x : S106496.Idx → BitVec 32) (t : S26000x128.Idx → Elt F .f32) (q : PosShare TreeShare) : sProp 𝕄 :=
  iprop(((xV).view.loc (thr d i) ↦{q} x) ∗ ((tV).view.loc (thr d i) ↦{q} t) ∗ bigSep Finset.univ (rowsDone d i x t))

/-- The copy of the tile's indices into its scratch is the indices' block. -/
theorem blk_payload (x : S106496.Idx → BitVec 32) (f : S3328.Idx → BitVec 32) :
    ∀ p ∈ (Finset.univ : Finset S3328.Idx), (aV).view.write (Elt F) f ((xblk i).view.read (Elt F) x) Finset.univ p = blkV i x p := by
  intro p _
  refine (congrFun (View.write_whole_univ (Val := Elt F) cc0_scratch0 f _) p).trans ?_
  rw [View.read_apply, xblk_emb]; rfl

/-- The indices at a share, as the tile's block of them and the rest. -/
theorem x_split (q : PosShare TreeShare) (x : S106496.Idx → BitVec 32) :
    ((xV).view.loc (thr d i) ↦{q} x : sProp 𝕄)
      = iprop(((xblk i).view.loc (thr d i) ↦[(xblk i).view.set]{q} x) ∗ ((xV).view.loc (thr d i) ↦[Finset.univ \ (xblk i).view.set]{q} x)) :=
  BI.Entails.antisymm (pointsTo_split_subset (Finset.subset_univ _)).1 (pointsTo_split_subset (Finset.subset_univ _)).2

theorem slabs_eq (f : S2x256x128.Idx → Elt F .f32) :
    ((rV).view.loc (thr d i) ↦{fullShare} f : sProp 𝕄)
      = iprop(((slab 0).view.loc (thr d i) ↦[(slab 0).view.set]{fullShare} f) ∗ ((slab 1).view.loc (thr d i) ↦[(slab 1).view.set]{fullShare} f)) := by
  rw [← slabs_univ]
  exact BI.Entails.antisymm (pointsTo_union slab_disjoint).1 (pointsTo_union slab_disjoint).2
theorem slabs_join (f g : S2x256x128.Idx → Elt F .f32) :
    iprop(((slab 0).view.loc (thr d i) ↦[(slab 0).view.set]{fullShare} f) ∗ ((slab 1).view.loc (thr d i) ↦[(slab 1).view.set]{fullShare} g))
      ⊢ (iprop(∃ h : S2x256x128.Idx → Elt F .f32, (rV).view.loc (thr d i) ↦{fullShare} h) : sProp 𝕄) := by
  refine (pointsTo_join slab_disjoint).trans ?_
  rw [slabs_univ]
  iintro H; iexists _; iexact H

set_option maxHeartbeats 1000000 in
/-- The body, from the buffers and counters it uses. -/
theorem body_run {x : S106496.Idx → BitVec 32} (hx : IdxOK x) (t : S26000x128.Idx → Elt F .f32) (q : PosShare TreeShare)
    (O : CellTallies nD τ sig (HIx 1)) (W : Waits sig (HIx 1)) (fa : S3328.Idx → BitVec 32) (fi : S26x128.Idx → BitVec 32) (fr : S2x256x128.Idx → Elt F .f32) :
    iprop(tileGo d i x t q ∗ ((aV).view.loc (thr d i) ↦{fullShare} fa) ∗ ((iV).view.loc (thr d i) ↦{fullShare} fi) ∗ ((rV).view.loc (thr d i) ↦{fullShare} fr)
        ∗ semVal (thr d i, .dma cc0_scoped0.sem) 0 ∗ semVal (thr d i, .dma cc0_scratch3.sem) 0
        ∗ semVal (thr d i, .dma cc0_scratch4.sem) 0 ∗ semVal (thr d i, .dma cc0_scratch5.sem) 0
        ∗ owes (thr d i) O W ∗ MayWaits (thr d i) (default : HIx 1) O)
      ⊢ wp frame (wpE (defs₀ (F := F)) 𝒱₀ (thr d i) none) Set.univ (bodyK (F := F) i) fun _ =>
        iprop(tileTd d i x t q ∗ ((aV).view.loc (thr d i) ↦{fullShare} blkV i x) ∗ ((iV).view.loc (thr d i) ↦{fullShare} listsV i x)
          ∗ (∃ h : S2x256x128.Idx → Elt F .f32, (rV).view.loc (thr d i) ↦{fullShare} h)
          ∗ semVal (thr d i, .dma cc0_scoped0.sem) 0 ∗ semVal (thr d i, .dma cc0_scratch3.sem) 0
          ∗ semVal (thr d i, .dma cc0_scratch4.sem) 0 ∗ semVal (thr d i, .dma cc0_scratch5.sem) 0
          ∗ ∃ W', ⌜∀ p ∈ W', p ∈ W ∨ p.2 = none⌝ ∗ owes (thr d i) O W') := by
  unfold tileGo tileTd
  rw [show (Finset.univ : Finset (Fin 13)) = insert 0 (insert 1 (todoAt 11)) by decide,
    SparseCore.bigSep_insert' (Φ := rowsAny (F := F) d i) (show (0 : Fin 13) ∉ insert 1 (todoAt 11) by decide),
    SparseCore.bigSep_insert' (Φ := rowsAny (F := F) d i) (show (1 : Fin 13) ∉ todoAt 11 by decide),
    ← show (Finset.univ : Finset (Fin 13)) = insert 0 (insert 1 (todoAt 11)) by decide]
  unfold bodyK
  iintro ⟨⟨Hx, Ht, ⟨%fo0, Ho0⟩, ⟨%fo1, Ho1⟩, Hto⟩, Ha, Hi, Hr, Hs0, Hs3, Hs4, Hs5, HO, #Hmw⟩
  ihave Hx := (Entails.of_eq (x_split d i q x)) $$ Hx
  icases Hx with ⟨Hx, Hxr⟩
  iapply (Transfers.wp_dmaLocal countersEmb 𝒱₀ (thr d i) none (dst := aV) (src := xblk i) (default : HIx 1) (aV).view.dmaCredit rfl
    (View.dmaCredit_pos _ (by decide)) (Finset.subset_univ _)) $$ [Hx Ha Hs0]
  · isplitl [Hx]; · iexact Hx
    isplitl [Ha]; · iexact Ha
    iexact Hs0
  iintro Hfl
  iapply (Transfers.wp_waitLocalO countersEmb 𝒱₀ (thr d i) none (default : HIx 1) (N := (aV).view.dmaCredit)
    (rfl : (aV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Ha, Hx⟩, Hs0, HO⟩
  ihave Ha := (Entails.of_eq (pointsTo_congr (blk_payload i x fa))) $$ Ha
  ihave Hx := (Entails.of_eq (x_split d i q x).symm) $$ [Hx Hxr]
  · isplitl [Hx] <;> iassumption
  iapply (loop_run d i x fi) $$ [Ha Hi]
  · isplitl [Ha]; · iexact Ha
    iexact Hi
  iintro %r ⟨Ha, Hi⟩
  ihave Hr := (Entails.of_eq (slabs_eq d i fr)) $$ Hr
  icases Hr with ⟨Hr0, Hr1⟩
  iapply (wp_chunk d i 0 hx t q fr fo0) $$ [Ht Hi Hr0 Ho0 Hs3 Hs4 HO]
  · isplitl [Ht]; · iexact Ht
    isplitl [Hi]; · iexact Hi
    isplitl [Hr0]; · iexact Hr0
    isplitl [Ho0]; · iexact Ho0
    isplitl [Hs3]; · iexact Hs3
    isplitl [Hs4]; · iexact Hs4
    isplitl [HO]; · iexact HO
    iexact Hmw
  iintro ⟨Ht, Hi, Hs3, HsA, HO⟩
  iapply (wp_chunk d i 1 hx t q fr fo1) $$ [Ht Hi Hr1 Ho1 Hs3 Hs5 HO]
  · isplitl [Ht]; · iexact Ht
    isplitl [Hi]; · iexact Hi
    isplitl [Hr1]; · iexact Hr1
    isplitl [Ho1]; · iexact Ho1
    isplitl [Hs3]; · iexact Hs3
    isplitl [Hs5]; · iexact Hs5
    isplitl [HO]; · iexact HO
    iexact Hmw
  iintro ⟨Ht, Hi, Hs3, HsB, HO⟩
  iapply (wp_wand frame _ _) $$ [Ht Hi Hs3 HsA HsB Hto HO]
  · iapply (wp_tail d i hx t q (W := W) 11 (Nat.le_refl _) _ (waits_insert (waits_insert (waits_insert (waits_insert (waits_insert fun p hp => Or.inl hp))))))
    isplitl [Ht]; · iexact Ht
    isplitl [Hi]; · iexact Hi
    isplitl [Hs3]; · iexact Hs3
    isplitl [HsA]; · iexact HsA
    isplitl [HsB]; · iexact HsB
    isplitr
    · rw [show overAt 11 = ∅ by decide, bigSep_empty]; iempintro
    isplitl [Hto]; · iexact Hto
    isplitl [HO]; · iexact HO
    iexact Hmw
  iintro %_ Hp
  unfold tailPost
  icases Hp with ⟨Ht, Hi, Hs3, Hs4, Hs5, ⟨%f0, Hr0⟩, ⟨%f1, Hr1⟩, Ho, HW⟩
  ihave Hr := (slabs_join d i f0 f1) $$ [Hr0 Hr1]
  · isplitl [Hr0] <;> iassumption
  isplitl [Hx Ht Ho]
  · isplitl [Hx]; · iexact Hx
    isplitl [Ht]; · iexact Ht
    iexact Ho
  isplitl [Ha]; · iexact Ha
  isplitl [Hi]; · iexact Hi
  isplitl [Hr]; · iexact Hr
  isplitl [Hs0]; · iexact Hs0
  isplitl [Hs3]; · iexact Hs3
  isplitl [Hs4]; · iexact Hs4
  isplitl [Hs5]; · iexact Hs5
  iexact HW

abbrev cell (s : DmaSem sig) : GSem nD τ sig := (thr d i, .dma s)

theorem ownSems0_thr :
    (ownSems0 (thr d i) : sProp 𝕄)
      = iprop(semVal (cell d i cc0_scoped0.sem) 0 ∗ semVal (cell d i cc0_scratch3.sem) 0 ∗ semVal (cell d i cc0_scratch4.sem) 0 ∗ semVal (cell d i cc0_scratch5.sem) 0
          ∗ bigSep (((((ownCells (thr d i)).erase (cell d i cc0_scoped0.sem)).erase (cell d i cc0_scratch3.sem)).erase (cell d i cc0_scratch4.sem)).erase (cell d i cc0_scratch5.sem)) fun g => semVal g 0) := by
  have hm : ∀ s : DmaSem sig, (SemLoc.dma s : SemLoc sig).isScoped .scVector = true → cell d i s ∈ ownCells (thr d i) := fun s h => mem_ownCells.mpr ⟨rfl, h⟩
  have hn : ∀ s s' : DmaSem sig, s ≠ s' → cell d i s ≠ cell d i s' := fun s s' h e => h (SemLoc.dma.inj (Prod.mk.inj e).2)
  unfold SparseCore.Cfg.ownSems0
  rw [SparseCore.bigSep_erase' (hm cc0_scoped0.sem (by decide)),
    SparseCore.bigSep_erase' (Finset.mem_erase.mpr ⟨hn cc0_scratch3.sem cc0_scoped0.sem (by decide), hm _ (by decide)⟩),
    SparseCore.bigSep_erase' (Finset.mem_erase.mpr ⟨hn cc0_scratch4.sem cc0_scratch3.sem (by decide), Finset.mem_erase.mpr ⟨hn _ _ (by decide), hm _ (by decide)⟩⟩),
    SparseCore.bigSep_erase' (Finset.mem_erase.mpr ⟨hn cc0_scratch5.sem cc0_scratch4.sem (by decide), Finset.mem_erase.mpr ⟨hn _ _ (by decide), Finset.mem_erase.mpr ⟨hn _ _ (by decide), hm _ (by decide)⟩⟩⟩)]

theorem ownBufs_thr :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  have hm : ∀ r : Ref sig .scVector, ((Proc.scVector (cV i) (jV i)).devRef r).owner = .proc (Proc.scVector (cV i) (jV i)) → (Proc.scVector (cV i) (jV i)).devRef r ∈ ownRefs (τ := τ) (.scVector (cV i) (jV i)) :=
    fun r h => SparseCore.Cfg.mem_ownRefs_of_owner (p := Proc.scVector (cV i) (jV i)) (b := (Proc.scVector (cV i) (jV i)).devRef r) h
  have hn : ∀ r r' : Ref sig .scVector, r ≠ r' → (Proc.scVector (cV i) (jV i)).devRef r ≠ (Proc.scVector (cV i) (jV i)).devRef r' := fun r r' h e => h (Proc.devRef_injective _ e)
  unfold SparseCore.Cfg.ownBufs
  refine (SparseCore.bigSep_erase' (hm cc0_scratch0 rfl)).trans ?_
  rw [SparseCore.bigSep_erase' (Finset.mem_erase.mpr ⟨hn cc0_scratch1 cc0_scratch0 (by decide), hm _ rfl⟩),
    SparseCore.bigSep_erase' (Finset.mem_erase.mpr ⟨hn cc0_scratch2 cc0_scratch1 (by decide), Finset.mem_erase.mpr ⟨hn _ _ (by decide), hm _ rfl⟩⟩)]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

set_option maxHeartbeats 1000000 in
theorem tile_body {x : S106496.Idx → BitVec 32} (hx : IdxOK x) (t : S26000x128.Idx → Elt F .f32) (q : PosShare TreeShare)
    (O : CellTallies nD τ sig (HIx 1)) (W : Waits sig (HIx 1)) (hO : ∀ g, O g none = 0) :
    iprop(levAts (K (F := F)).L (K (F := F)).lev ∗ emp ∗ tileGo d i x t q
        ∗ scopedBufs (thr d i) ∗ scopedSems0 (thr d i) ∗ owes (thr d i) O W)
      ⊢ wp frame (wpE (defs₀ (F := F)) 𝒱₀ (thr d i) none) Set.univ
          (cc0__sc_gather_body (F := F) i xV (Memref.isWhole_whole _) tV (Memref.isWhole_whole _) oV (Memref.isWhole_whole _) aV (Memref.isWhole_whole _)
            iV (Memref.isWhole_whole _) rV (Memref.isWhole_whole _) cc0_scratch3 cc0_scratch4 cc0_scratch5 cc0_scoped0)
          fun _ => iprop(tileTd d i x t q ∗ scopedBufs (thr d i) ∗ scopedSems0 (thr d i)
            ∗ ∃ W', ⌜∀ p ∈ W', p ∈ W ∨ p.2 = none⌝ ∗ owes (thr d i) O W') := by
  rw [body_eq, (K (F := F)).scopedBufs_V facts d (cV i) (jV i), SparseCore.Cfg.scopedSems0_V (Val := Elt F) d (cV i) (jV i), ownSems0_thr, ownBufs_thr]
  iintro ⟨#Hlv, -, Hgo, ⟨⟨%fa, Ha⟩, ⟨%fi, Hi⟩, ⟨%fr, Hr⟩, Hbufs⟩, ⟨Hs0, Hs3, Hs4, Hs5, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_wand frame _ _) $$ [Hgo Ha Hi Hr Hs0 Hs3 Hs4 Hs5 HO Hmw]
  · iapply (body_run d i hx t q O W fa fi fr)
    isplitl [Hgo]; · iexact Hgo
    isplitl [Ha]; · iexact Ha
    isplitl [Hi]; · iexact Hi
    isplitl [Hr]; · iexact Hr
    isplitl [Hs0]; · iexact Hs0
    isplitl [Hs3]; · iexact Hs3
    isplitl [Hs4]; · iexact Hs4
    isplitl [Hs5]; · iexact Hs5
    isplitl [HO]; · iexact HO
    iexact Hmw
  iintro %_ ⟨Htd, Ha, Hi, ⟨%h, Hr⟩, Hs0, Hs3, Hs4, Hs5, HW⟩
  isplitl [Htd]; · iexact Htd
  isplitl [Ha Hi Hr Hbufs]
  · isplitl [Ha]; · iexists _; iexact Ha
    isplitl [Hi]; · iexists _; iexact Hi
    isplitl [Hr]; · iexists _; iexact Hr
    iexact Hbufs
  isplitl [Hs0 Hs3 Hs4 Hs5 Hsems]
  · isplitl [Hs0]; · iexact Hs0
    isplitl [Hs3]; · iexact Hs3
    isplitl [Hs4]; · iexact Hs4
    isplitl [Hs5]; · iexact Hs5
    iexact Hsems
  iexact HW

end Tile

end Cert.Proof.I
-- ==== Proof.RegionI.lean ====
/-
  The TensorCore region: the three-layer network on a block of 512 rows

  Eight points; at each the body loads its eleven input blocks whole, computes, and stores the output block whole. What
  the output block holds is `mlpBlk` of the input blocks. The region runs from every unscoped buffer at a valuation to
  the same buffers with the result at its write-backs.
-/
module

public import proofs.«01_k».proof.Proof.TileI
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.Tactic

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

open Idealize.ShloMosaic.TcCoe
open Idealize.ShloMosaic.Pipeline (Dat Cfg Window BodyObligation cellOf)

/-! ## The body -/

/-- What the body leaves in the output block, from the input blocks. -/
def mlpBlk (x0 : S512x3328.Idx → Elt F .f32) (x1 : S512x13.Idx → Elt F .f32) (x2 : S3328x1024.Idx → Elt F .f32) (x3 : S13x1024.Idx → Elt F .f32) (x4 : S1x1024.Idx → Elt F .f32) (x5 : S1024x512.Idx → Elt F .f32) (x6 : S1x512.Idx → Elt F .f32) (x7 : S512x1024.Idx → Elt F .f32) (x8 : S1x1024.Idx → Elt F .f32) (x9 : S1024x1313.Idx → Elt F .f32) (x10 : S1x1313.Idx → Elt F .f32) : S512x1313.Idx → Elt F .f32 :=
  k1_pay1 (k1_pay2 x0 x2 x1 x3 x4 x5 x6 x7 x8 x9) x10

/-- Memref `M`'s buffer on core `c`: its contents' type, and it held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- A rectangle of a whole shape at the origin is every index, in place. -/
theorem unit_emb_zero {S : Shape} (off : Fin S.rank → Nat) (h0 : ∀ a, off a = 0) (inb) (x : S.Idx) :
    (Rect.unit (s := S) off S.size inb).emb x = x := by
  refine funext fun a => Fin.ext ?_
  rw [Rect.emb_apply]
  change off a + 1 * (x a).val = (x a).val
  rw [h0 a]; omega

theorem readAt_zero {sp : Space} {S : Shape} {e : EltTy} (M : Memref sig .tc sp S e) (off : Fin S.rank → Nat) (h0 : ∀ a, off a = 0) (inb)
    (f : M.view.ty.Contents (Elt F)) : M.view.readAt (Elt F) (Rect.unit (s := S) off S.size inb).toLoadRect f = M.view.read (Elt F) f :=
  funext fun x => congrArg (M.view.read (Elt F) f) (unit_emb_zero off h0 inb x)

theorem canon_zero [∀ e, Nonempty (Elt F e)] {S : Shape} {e : EltTy} (off : Fin S.rank → Nat) (h0 : ∀ a, off a = 0) (inb)
    (w : S.Idx → Elt F e) : View.canon (Val := Elt F) (s := S) (e := e) [⟨Rect.unit (s := S) off S.size inb, w⟩] = w :=
  funext fun x => by
    have := View.canon_cons_emb (Val := Elt F) (Rect.unit (s := S) off S.size inb) w [] x
    rwa [unit_emb_zero off h0 inb] at this

set_option maxHeartbeats 1000000 in
theorem mlp_run (c : Dev nD) (i : grid1.Coords) (M0 : Memref sig .tc .vmem S512x3328 .f32) (h0 : M0.IsWhole) (M1 : Memref sig .tc .vmem S512x13 .f32) (h1 : M1.IsWhole) (M2 : Memref sig .tc .vmem S3328x1024 .f32) (h2 : M2.IsWhole) (M3 : Memref sig .tc .vmem S13x1024 .f32) (h3 : M3.IsWhole) (M4 : Memref sig .tc .vmem S1x1024 .f32) (h4 : M4.IsWhole) (M5 : Memref sig .tc .vmem S1024x512 .f32) (h5 : M5.IsWhole) (M6 : Memref sig .tc .vmem S1x512 .f32) (h6 : M6.IsWhole) (M7 : Memref sig .tc .vmem S512x1024 .f32) (h7 : M7.IsWhole) (M8 : Memref sig .tc .vmem S1x1024 .f32) (h8 : M8.IsWhole) (M9 : Memref sig .tc .vmem S1024x1313 .f32) (h9 : M9.IsWhole) (M10 : Memref sig .tc .vmem S1x1313 .f32) (h10 : M10.IsWhole) (M11 : Memref sig .tc .vmem S512x1313 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ ∃ g : Bf (F := F) c M11, ⌜M11.view.read (Elt F) g = mlpBlk (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10)⌝ ∗ pt c M11 g) -∗ Q ⟨⟩))
      ⊢ wp frame (wpE (defs₀ (F := F)) 𝒱₀ (c : Thread nD τ) none) Set.univ (cc1__mlp_body i M0 h0 M1 h1 M2 h2 M3 h3 M4 h4 M5 h5 M6 h6 M7 h7 M8 h8 M9 h9 M10 h10 M11 h11) Q := by
  iintro ⟨H0, H1, H2, H3, H4, H5, H6, H7, H8, H9, H10, H11, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr; swap; (· iexact H11)
  ipureintro
  rw [View.read_writes_junk_eq_canon]
  unfold mlp_run.sl.H11_1 mlp_run.sl.r
  rw [canon_zero (F := F) (S := S512x1313) ![0, 0] (by decide) inb_S512x1313_S512x1313_0_0]
  rw [readAt_zero M0 ![0, 0] (by decide) inb_S512x3328_S512x3328_0_0 f0, readAt_zero M1 ![0, 0] (by decide) inb_S512x13_S512x13_0_0 f1, readAt_zero M2 ![0, 0] (by decide) inb_S3328x1024_S3328x1024_0_0 f2, readAt_zero M3 ![0, 0] (by decide) inb_S13x1024_S13x1024_0_0 f3, readAt_zero M4 ![0, 0] (by decide) inb_S1x1024_S1x1024_0_0 f4, readAt_zero M5 ![0, 0] (by decide) inb_S1024x512_S1024x512_0_0 f5, readAt_zero M6 ![0, 0] (by decide) inb_S1x512_S1x512_0_0 f6, readAt_zero M7 ![0, 0] (by decide) inb_S512x1024_S512x1024_0_0 f7, readAt_zero M8 ![0, 0] (by decide) inb_S1x1024_S1x1024_0_0 f8, readAt_zero M9 ![0, 0] (by decide) inb_S1024x1313_S1024x1313_0_0 f9, readAt_zero M10 ![0, 0] (by decide) inb_S1x1313_S1x1313_0_0 f10]
  rfl

/-! ## The proof data, at an entry valuation -/

/-- What the program's arrays hold on entry. -/
abbrev Vals : Type := (c : Dev nD) → (b : Ref sig .tc) → Buf (Elt F) ((c : Thread nD τ).loc b)

variable (V : Vals (F := F))

/-- Window `w`'s block at a point. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block at a point. -/
def oblk (c : Dev nD) (t : Fin cfg1.N) : S512x1313.Idx → Elt F .f32 :=
  mlpBlk (iblk V c 0 t) (iblk V c 1 t) (iblk V c 2 t) (iblk V c 3 t) (iblk V c 4 t) (iblk V c 5 t) (iblk V c 6 t) (iblk V c 7 t) (iblk V c 8 t) (iblk V c 9 t) (iblk V c 10 t)

/-- The invariant between points: the scoped buffers the pipeline does not stage. -/
abbrev Φc (c : Dev nD) : sProp 𝕄 := Pipeline.scopedRest (Ix := HIx 1) (Name := ℕ) (U := UU) (Lvl := ℕ) (Val := Elt F) spec1 c

/-- The proof data: each input's buffer at its block, the output's at `oblk`; nothing owed. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => oblk V c t
  Φ _ := Φc c
  q _ := fullShare
  owed _ := 0
  recorded _ := {p | (K (F := F)).lev ((c : Thread nD τ), p.1) p.2 ≤ 8}

/-- No pipeline here has a table. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (t : Fin cfg1.N) (d : (cfg1.win 0).block.Idx → Elt F (cfg1.win 0).elt) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d : (cfg1.win 1).block.Idx → Elt F (cfg1.win 1).elt) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d : (cfg1.win 2).block.Idx → Elt F (cfg1.win 2).elt) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d : (cfg1.win 3).block.Idx → Elt F (cfg1.win 3).elt) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d : (cfg1.win 4).block.Idx → Elt F (cfg1.win 4).elt) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d : (cfg1.win 5).block.Idx → Elt F (cfg1.win 5).elt) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d : (cfg1.win 6).block.Idx → Elt F (cfg1.win 6).elt) : (dat V c).before 6 t d = iblk V c 6 t :=
  ((dat V c).before_in_eq_fetched 6 rfl (fun _ => rfl) (fun _ _ _ => rfl) (fun _ => rfl) t d).trans rfl
theorem before_7 (c : Dev nD) (t : Fin cfg1.N) (d : (cfg1.win 7).block.Idx → Elt F (cfg1.win 7).elt) : (dat V c).before 7 t d = iblk V c 7 t :=
  ((dat V c).before_in_eq_fetched 7 rfl (fun _ => rfl) (fun _ _ _ => rfl) (fun _ => rfl) t d).trans rfl
theorem before_8 (c : Dev nD) (t : Fin cfg1.N) (d : (cfg1.win 8).block.Idx → Elt F (cfg1.win 8).elt) : (dat V c).before 8 t d = iblk V c 8 t :=
  ((dat V c).before_in_eq_fetched 8 rfl (fun _ => rfl) (fun _ _ _ => rfl) (fun _ => rfl) t d).trans rfl
theorem before_9 (c : Dev nD) (t : Fin cfg1.N) (d : (cfg1.win 9).block.Idx → Elt F (cfg1.win 9).elt) : (dat V c).before 9 t d = iblk V c 9 t :=
  ((dat V c).before_in_eq_fetched 9 rfl (fun _ => rfl) (fun _ _ _ => rfl) (fun _ => rfl) t d).trans rfl
theorem before_10 (c : Dev nD) (t : Fin cfg1.N) (d : (cfg1.win 10).block.Idx → Elt F (cfg1.win 10).elt) : (dat V c).before 10 t d = iblk V c 10 t :=
  ((dat V c).before_in_eq_fetched 10 rfl (fun _ => rfl) (fun _ _ _ => rfl) (fun _ => rfl) t d).trans rfl

set_option maxHeartbeats 1000000 in
theorem body_obligation (c : Dev nD) : BodyObligation (dat V c) (defs₀ (F := F)) 𝒱₀ none Set.univ := fun t => by
  rw [bigSep_W1, bigSep_W1]
  unfold owns
  rw [show (dat V c).Φ t.castSucc = Φc c from rfl, show (dat V c).Φ t.succ = Φc c from rfl,
    show (dat V c).owesAt none t.succ = (dat V c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, -, H11⟩⟩
  rw [before_0, before_1, before_2, before_3, before_4, before_5, before_6, before_7, before_8, before_9, before_10] at *
  iapply (mlp_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) f0 f1 f2 f3 f4 f5 f6 f7 f8 f9 f10 f11 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, %g, %hg, H11⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]; · iexists f8; isplitr; swap; (· iexact H8); ipureintro; exact hf8
  isplitl [H9]; · iexists f9; isplitr; swap; (· iexact H9); ipureintro; exact hf9
  isplitl [H10]; · iexists f10; isplitr; swap; (· iexact H10); ipureintro; exact hf10
  iexists g; isplitr; swap; (· iexact H11); ipureintro
  rw [hg, hf0, hf1, hf2, hf3, hf4, hf5, hf6, hf7, hf8, hf9, hf10]; rfl

/-! ## The region over the thread state -/

/-- The result's array after the region. -/
def outArr (c : Dev nD) : Buf (Elt F) ((c : Thread nD τ).loc main_v16) := (dat V c).arrAt 11 cfg1.N

/-- The valuation after the region. -/
def Vout : Vals (F := F) := fun c b => if h : b = main_v16 then h ▸ outArr V c else V c b

theorem Vout_out (c : Dev nD) : Vout V c main_v16 = outArr V c := dif_pos rfl
theorem Vout_ne (c : Dev nD) (b : Ref sig .tc) (h : b ≠ main_v16) : Vout V c b = V c b := dif_neg h

/-- What the thread owes beside: nothing, its recorded waits low. -/
def idle (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ idle c)
  post c := iprop(unscopedBufs c (Vout V c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold idle
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vout V c) ((pdats V 0 c).arrAt · cfg1.N)
      (fun w => by
        fin_cases w
        · exact ((pdats V 0 c).arrAt_in 0 rfl _).trans (Vout_ne V c main_v4 (by decide)).symm
        · exact ((pdats V 0 c).arrAt_in 1 rfl _).trans (Vout_ne V c main_arg1 (by decide)).symm
        · exact ((pdats V 0 c).arrAt_in 2 rfl _).trans (Vout_ne V c main_v10 (by decide)).symm
        · exact ((pdats V 0 c).arrAt_in 3 rfl _).trans (Vout_ne V c main_v11 (by decide)).symm
        · exact ((pdats V 0 c).arrAt_in 4 rfl _).trans (Vout_ne V c main_v12 (by decide)).symm
        · exact ((pdats V 0 c).arrAt_in 5 rfl _).trans (Vout_ne V c main_arg5 (by decide)).symm
        · exact ((pdats V 0 c).arrAt_in 6 rfl _).trans (Vout_ne V c main_v13 (by decide)).symm
        · exact ((pdats V 0 c).arrAt_in 7 rfl _).trans (Vout_ne V c main_arg7 (by decide)).symm
        · exact ((pdats V 0 c).arrAt_in 8 rfl _).trans (Vout_ne V c main_v14 (by decide)).symm
        · exact ((pdats V 0 c).arrAt_in 9 rfl _).trans (Vout_ne V c main_arg9 (by decide)).symm
        · exact ((pdats V 0 c).arrAt_in 10 rfl _).trans (Vout_ne V c main_v15 (by decide)).symm
        · exact (Vout_out V c).symm)
      (fun b hb => Vout_ne V c b fun h => hb (h ▸ Finset.mem_image.mpr ⟨11, Finset.mem_univ _, rfl⟩))
    unfold idle
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, rfl⟩
    · exact h
    · exact Nat.zero_le _

end Cert.Proof.I

end
-- ==== Proof.HostI.lean ====
/-
  The host's part of the program, before and after the gather: the operations as lists, and what they leave in the
  buffers the gather and the dense layers read.
-/
module

public import proofs.«01_k».proof.Proof.RegionI
public import Idealize.ShloMosaic.Lib.StableHlo.Run
public import Idealize.ShloMosaic.Lib.Pipeline.Frame

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

open Idealize.ShloMosaic.StableHlo

/-! ## The host's operations -/

/-- Before the gather. -/
abbrev ops1 : List (HloOp τ sig (Elt F)) := [
  StableHlo.reshape main_arg2 main_v0 (rfl : (.f32 : EltTy) = .f32) shapeCasts_S26x1000x50_S26000x50,
  StableHlo.nullary main_c (constantI S_ 32 0#32),
  StableHlo.TRef.unary (.of main_c : StableHlo.TRef sig ⟨S_, .i32⟩) main_call0.v0 (sitofp .f32),
  StableHlo.TRef.binary (.of main_v0 : StableHlo.TRef sig ⟨S26000x50, .f32⟩) main_call0.v0 main_call0.v1 (fun x v => pad S26000x128 ![0, 0] ![0, 78] ![0, 0] x v pads_S26000x50_S26000x128_000_0780 h_S_),
  StableHlo.reshape main_arg0 main_v2 (rfl : (.i32 : EltTy) = .i32) shapeCasts_S4096x26_S106496]

/-- Between the gather and the dense layers. -/
abbrev ops2 : List (HloOp τ sig (Elt F)) := [
  StableHlo.reshape main_v3 main_v4 (rfl : (.f32 : EltTy) = .f32) shapeCasts_S106496x128_S4096x3328,
  StableHlo.unary main_arg3 main_v5 ((extractStridedSlice S1300x1024 ![0, 0] · slices_S1313x1024_S1300x1024_0_0) : (⟨S1313x1024, .f32⟩ : BufTy).Contents (Elt F) → (⟨S1300x1024, .f32⟩ : BufTy).Contents (Elt F)),
  StableHlo.nullary main_cst (constant S_ .f32 0x00000000#32),
  StableHlo.unary main_cst main_v6 (broadcastInDim S26x128x1024 ![] bcast_S_S26x128x1024 : (⟨S_, .f32⟩ : BufTy).Contents (Elt F) → (⟨S26x128x1024, .f32⟩ : BufTy).Contents (Elt F)),
  StableHlo.reshape main_v5 main_v7 (rfl : (.f32 : EltTy) = .f32) shapeCasts_S1300x1024_S26x50x1024,
  StableHlo.nullary main_c_0 (constantI S_ 32 0#32),
  StableHlo.unary main_c_0 main_v8 (broadcastInDim S1 ![] bcast_S_S1 : (⟨S_, .i32⟩ : BufTy).Contents (Elt F) → (⟨S1, .i32⟩ : BufTy).Contents (Elt F)),
  StableHlo.ternary main_v6 main_v8 main_v7 main_v9 ((fun x i u => Host.scatter scatter_S26x128x1024_S1_S26x50x1024_012_n_1_0 (fun _ b => b) x i u) : (⟨S26x128x1024, .f32⟩ : BufTy).Contents (Elt F) → (⟨S1, .i32⟩ : BufTy).Contents (Elt F) → (⟨S26x50x1024, .f32⟩ : BufTy).Contents (Elt F) → (⟨S26x128x1024, .f32⟩ : BufTy).Contents (Elt F)),
  StableHlo.reshape main_v9 main_v10 (rfl : (.f32 : EltTy) = .f32) shapeCasts_S26x128x1024_S3328x1024,
  StableHlo.unary main_arg3 main_v11 ((extractStridedSlice S13x1024 ![1300, 0] · slices_S1313x1024_S13x1024_1300_0) : (⟨S1313x1024, .f32⟩ : BufTy).Contents (Elt F) → (⟨S13x1024, .f32⟩ : BufTy).Contents (Elt F)),
  StableHlo.reshape main_arg4 main_v12 (rfl : (.f32 : EltTy) = .f32) shapeCasts_S1024_S1x1024,
  StableHlo.reshape main_arg6 main_v13 (rfl : (.f32 : EltTy) = .f32) shapeCasts_S512_S1x512,
  StableHlo.reshape main_arg8 main_v14 (rfl : (.f32 : EltTy) = .f32) shapeCasts_S1024_S1x1024,
  StableHlo.reshape main_arg10 main_v15 (rfl : (.f32 : EltTy) = .f32) shapeCasts_S1313_S1x1313]

/-- The dense layers' call. -/
def denseCall : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ())

theorem main_eq (d : Dev nD) :
    main (F := F) d = seq ops1 >>= fun _ => (K (F := F)).run d 0 >>= fun _ => seq ops2 >>= fun _ => denseCall >>= fun _ => pure ⟨⟩ := by
  rfl

theorem ops1_sub : (ops1 : List (HloOp τ sig (Elt F))).Forall fun op => op.bufs ⊆ tcRefs τ sig :=
  ⟨reshape_bufs_sub .., nullary_bufs_sub .., unary_bufs_sub .., binary_bufs_sub .., reshape_bufs_sub ..⟩
theorem ops1_fresh : (ops1 : List (HloOp τ sig (Elt F))).Forall fun op => op.fresh = ∅ := ⟨rfl, rfl, rfl, rfl, rfl⟩
theorem ops2_sub : (ops2 : List (HloOp τ sig (Elt F))).Forall fun op => op.bufs ⊆ tcRefs τ sig :=
  ⟨reshape_bufs_sub .., unary_bufs_sub .., nullary_bufs_sub .., unary_bufs_sub .., reshape_bufs_sub .., nullary_bufs_sub .., unary_bufs_sub .., ternary_bufs_sub .., reshape_bufs_sub .., unary_bufs_sub .., reshape_bufs_sub .., reshape_bufs_sub .., reshape_bufs_sub .., reshape_bufs_sub ..⟩
theorem ops2_fresh : (ops2 : List (HloOp τ sig (Elt F))).Forall fun op => op.fresh = ∅ := ⟨rfl, rfl, rfl, rfl, rfl, rfl, rfl, rfl, rfl, rfl, rfl, rfl, rfl, rfl⟩

abbrev W1 : List (Ref sig .tc) := [main_v0, main_c, main_call0_v0, main_v1, main_v2]
abbrev W2 : List (Ref sig .tc) := [main_v4, main_v5, main_cst, main_v6, main_v7, main_c_0, main_v8, main_v9, main_v10, main_v11, main_v12, main_v13, main_v14, main_v15]

theorem ops1_writes : (ops1 : List (HloOp τ sig (Elt F))).Forall fun op => op.writes ⊆ (W1.map (Proc.devRef (τ := τ) .tc)).toFinset :=
  forall_writes_sub_of_map rfl
theorem ops2_writes : (ops2 : List (HloOp τ sig (Elt F))).Forall fun op => op.writes ⊆ (W2.map (Proc.devRef (τ := τ) .tc)).toFinset :=
  forall_writes_sub_of_map rfl

/-! ## The contents along the way -/

section Contents

variable (m : (ℓ : Loc nD τ sig) → Buf (Elt F) ℓ) (d : Dev nD)

/-- At the start, and before the gather. -/
def V0 : Valuation τ sig (Elt F) := fun b => m (d, b)
def V1 : Valuation τ sig (Elt F) := after ops1 (V0 m d)

/-- The indices, as the gather reads them. -/
def xcat : S106496.Idx → BitVec 32 := shapeCast _ (m ((d.tc : Thread nD τ).loc main_arg0) : S4096x26.Idx → BitVec 32) shapeCasts_S4096x26_S106496
/-- The tables, end to end, their rows padded with zeros. -/
def table : S26000x128.Idx → Elt F .f32 :=
  pad S26000x128 ![0, 0] ![0, 78] ![0, 0] (shapeCast S26000x50 (m ((d.tc : Thread nD τ).loc main_arg2) : S26x1000x50.Idx → Elt F .f32) shapeCasts_S26x1000x50_S26000x50)
    (sitofp .f32 (constantI S_ 32 0#32)) pads_S26000x50_S26000x128_000_0780 h_S_

theorem V1_v2 : V1 m d (Proc.devRef .tc main_v2) = xcat m d := by
  unfold V1
  simp only [ops1, TRef.binary, TRef.nullary, TRef.ternary, TRef.unary, TRef.toBuf, TRef.ofBuf, cast_eq]
  after_results_simp
  rfl
theorem V1_v1 : V1 m d (Proc.devRef .tc main_v1) = table m d := by
  unfold V1
  simp only [ops1, TRef.binary, TRef.nullary, TRef.ternary, TRef.unary, TRef.toBuf, TRef.ofBuf, cast_eq]
  after_results_simp
  rfl
theorem V1_keep (r : Ref sig .tc) (h : r ∉ W1) : V1 m d (Proc.devRef .tc r) = m ((d.tc : Thread nD τ).loc r) :=
  after_of_writes_sub ops1 _ ops1_writes h

/-- After the gather, and before the dense layers. -/
def V2 : Valuation τ sig (Elt F) := Function.update (V1 m d) (Proc.devRef .tc main_v3) (rowsV (xcat m d) (table m d))
def V3 : Valuation τ sig (Elt F) := after ops2 (V2 m d)

theorem V2_v3 : V2 m d (Proc.devRef .tc main_v3) = rowsV (xcat m d) (table m d) := Function.update_self ..
theorem V2_ne (b : DevRef τ sig) (h : b ≠ Proc.devRef .tc main_v3) : V2 m d b = V1 m d b := Function.update_of_ne h ..
theorem V2_keep (r : Ref sig .tc) (h : r ∉ W1) (h' : r ≠ main_v3) : V2 m d (Proc.devRef .tc r) = m ((d.tc : Thread nD τ).loc r) :=
  (V2_ne m d _ fun e => h' (Proc.devRef_injective _ e)).trans (V1_keep m d r h)
theorem V3_keep (r : Ref sig .tc) (h : r ∉ W2) (h' : r ∉ W1) (h'' : r ≠ main_v3) : V3 m d (Proc.devRef .tc r) = m ((d.tc : Thread nD τ).loc r) :=
  (after_of_writes_sub ops2 _ ops2_writes h).trans (V2_keep m d r h' h'')

/-- The gathered rows, a batch element's side by side. -/
def emb : S4096x3328.Idx → Elt F .f32 := shapeCast _ (rowsV (xcat m d) (table m d)) shapeCasts_S106496x128_S4096x3328
/-- The first layer's weights for the gathered features, padded alike. -/
def wcat : S3328x1024.Idx → Elt F .f32 :=
  shapeCast S3328x1024 (Host.scatter scatter_S26x128x1024_S1_S26x50x1024_012_n_1_0 (fun _ b => b)
      (broadcastInDim S26x128x1024 ![] bcast_S_S26x128x1024 (constant S_ .f32 0x00000000#32))
      (broadcastInDim S1 ![] bcast_S_S1 (constantI S_ 32 0#32))
      (shapeCast S26x50x1024 (extractStridedSlice S1300x1024 ![0, 0] (m ((d.tc : Thread nD τ).loc main_arg3) : S1313x1024.Idx → Elt F .f32) slices_S1313x1024_S1300x1024_0_0)
        shapeCasts_S1300x1024_S26x50x1024)) shapeCasts_S26x128x1024_S3328x1024

theorem V3_v4 : V3 m d (Proc.devRef .tc main_v4) = emb m d := by
  unfold V3 emb
  rw [← V2_v3 m d]
  simp only [ops2]
  after_results_simp
  rfl
theorem V3_v10 : V3 m d (Proc.devRef .tc main_v10) = wcat m d := by
  unfold V3 wcat
  rw [← V2_keep m d main_arg3 (by decide) (by decide)]
  simp only [ops2]
  after_results_simp
  rfl
theorem V3_v11 : V3 m d (Proc.devRef .tc main_v11) = (extractStridedSlice S13x1024 ![1300, 0] (m ((d.tc : Thread nD τ).loc main_arg3) : S1313x1024.Idx → Elt F .f32) slices_S1313x1024_S13x1024_1300_0 : S13x1024.Idx → Elt F .f32) := by
  unfold V3
  rw [← V2_keep m d main_arg3 (by decide) (by decide)]
  simp only [ops2]
  after_results_simp
theorem V3_v12 : V3 m d (Proc.devRef .tc main_v12) = (shapeCast S1x1024 (m ((d.tc : Thread nD τ).loc main_arg4) : S1024.Idx → Elt F .f32) shapeCasts_S1024_S1x1024 : S1x1024.Idx → Elt F .f32) := by
  unfold V3
  rw [← V2_keep m d main_arg4 (by decide) (by decide)]
  simp only [ops2]
  after_results_simp
  rfl
theorem V3_v13 : V3 m d (Proc.devRef .tc main_v13) = (shapeCast S1x512 (m ((d.tc : Thread nD τ).loc main_arg6) : S512.Idx → Elt F .f32) shapeCasts_S512_S1x512 : S1x512.Idx → Elt F .f32) := by
  unfold V3
  rw [← V2_keep m d main_arg6 (by decide) (by decide)]
  simp only [ops2]
  after_results_simp
  rfl
theorem V3_v14 : V3 m d (Proc.devRef .tc main_v14) = (shapeCast S1x1024 (m ((d.tc : Thread nD τ).loc main_arg8) : S1024.Idx → Elt F .f32) shapeCasts_S1024_S1x1024 : S1x1024.Idx → Elt F .f32) := by
  unfold V3
  rw [← V2_keep m d main_arg8 (by decide) (by decide)]
  simp only [ops2]
  after_results_simp
  rfl
theorem V3_v15 : V3 m d (Proc.devRef .tc main_v15) = (shapeCast S1x1313 (m ((d.tc : Thread nD τ).loc main_arg10) : S1313.Idx → Elt F .f32) shapeCasts_S1313_S1x1313 : S1x1313.Idx → Elt F .f32) := by
  unfold V3
  rw [← V2_keep m d main_arg10 (by decide) (by decide)]
  simp only [ops2]
  after_results_simp
  rfl

end Contents

end Cert.Proof.I

end
-- ==== Proof.SplitI.lean ====
/-
  The gather's operands, dealt to the tiles and gathered back: the row numbers and the table by shares, one a tile, and
  the result by the tiles' chunks of its rows.
-/
module

public import proofs.«01_k».proof.Proof.TileBodyI
public import proofs.«01_k».proof.Proof.HostI

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

/-! ## The tiles -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

abbrev at' (c : Fin 2) (s : Fin 16) : grid0.Coords := coordsV c s

/-- The tile's share of what every tile reads. -/
def tshare (c : Fin 2) (s : Fin 16) : PosShare TreeShare :=
  pieceOf fullShare (2 * 16) (by decide) (finProdFinEquiv (c, s))

theorem base_at (c : Fin 2) (s : Fin 16) : base (at' c s) = 6656 * s.val + 3328 * c.val := rfl

/-- The chunks' rows of the result, by core, tile and chunk. -/
def chunkSet (k : Fin 2 × (Fin 16 × Fin 13)) : Finset S106496x128.Idx := (outc (at' k.1 k.2.1) k.2.2).view.set

theorem chunk_disjoint : ∀ k ∈ (Finset.univ : Finset (Fin 2 × (Fin 16 × Fin 13))), ∀ k' ∈ (Finset.univ : Finset (Fin 2 × (Fin 16 × Fin 13))),
    k ≠ k' → Disjoint (chunkSet k) (chunkSet k') := by
  intro k _ k' _ h
  refine Finset.disjoint_left.mpr fun p hp hp' => h ?_
  obtain ⟨c, s, j⟩ := k
  obtain ⟨c', s', j'⟩ := k'
  have hp := (mem_outc (at' c s) j p).mp hp
  have hp' := (mem_outc (at' c' s') j' p).mp hp'
  rw [base_at] at hp hp'
  have hc := c.isLt; have hs := s.isLt; have hj := j.isLt
  have hc' := c'.isLt; have hs' := s'.isLt; have hj' := j'.isLt
  have e1 : s.val = s'.val := by omega
  have e2 : c.val = c'.val := by omega
  have e3 : j.val = j'.val := by omega
  rw [Fin.ext e1, Fin.ext e2, Fin.ext e3]

theorem chunk_cover : (Finset.univ : Finset (Fin 2 × (Fin 16 × Fin 13))).biUnion chunkSet = Finset.univ := by
  refine Finset.eq_univ_iff_forall.mpr fun p => ?_
  have hp : (p 0).val < 106496 := (p 0).isLt
  refine Finset.mem_biUnion.mpr ⟨(⟨(p 0).val % 6656 / 3328, by omega⟩, ⟨(p 0).val / 6656, by omega⟩, ⟨(p 0).val % 3328 / 256, by omega⟩), Finset.mem_univ _, ?_⟩
  refine (mem_outc (at' _ _) _ p).mpr ?_
  rw [base_at]
  dsimp only
  constructor <;> omega

section Split

variable (d : Dev nD)

/-- A buffer every tile reads, whole, is its tiles' shares of it. -/
theorem shares_eq (ℓ : Loc nD τ sig) (f : Buf (Elt F) ℓ) :
    (ℓ ↦{fullShare} f : sProp 𝕄) = bigSep Finset.univ fun c : Fin 2 => bigSep Finset.univ fun s : Fin 16 => ℓ ↦{tshare c s} f := by
  have h := pointsTo_piecesOf (Ix := HIx 1) (Name := ℕ) (U := UU) (Lvl := ℕ) (ℓ := ℓ) Finset.univ f (o := 2 * 16) (by decide) fullShare
  rw [h, bigSep_univ_equiv (finProdFinEquiv : Fin 2 × Fin 16 ≃ Fin (2 * 16)), bigSep_univ_prod]
  rfl

abbrev xLoc : Loc nD τ sig := (d.tc : Thread nD τ).loc main_v2
abbrev tLoc : Loc nD τ sig := (d.tc : Thread nD τ).loc main_v1
abbrev oLoc : Loc nD τ sig := (d.tc : Thread nD τ).loc main_v3

/-- The result, whole, is its chunks. -/
theorem chunks_eq (f : S106496x128.Idx → Elt F .f32) :
    (oLoc d ↦{fullShare} f : sProp 𝕄) = bigSep Finset.univ fun c : Fin 2 => bigSep Finset.univ fun s : Fin 16 =>
      bigSep Finset.univ fun j : Fin 13 => (outc (at' c s) j).view.loc (thr d (at' c s)) ↦[(outc (at' c s) j).view.set]{fullShare} f := by
  have h := pointsTo_biUnion (Ix := HIx 1) (Name := ℕ) (U := UU) (Lvl := ℕ) (ℓ := oLoc d) (q := fullShare) (f := f) Finset.univ chunkSet chunk_disjoint
  rw [chunk_cover] at h
  rw [h, bigSep_univ_prod]
  refine bigSep_congr fun c _ => ?_
  rw [bigSep_univ_prod]
  rfl

/-- What core `c`'s tiles take in all, and what they bring back. -/
def coreGo (c : Fin 2) (x : S106496.Idx → BitVec 32) (t : S26000x128.Idx → Elt F .f32) : sProp 𝕄 :=
  bigSep Finset.univ fun s : Fin 16 => tileGo d (at' c s) x t (tshare c s)
def coreTd (c : Fin 2) (x : S106496.Idx → BitVec 32) (t : S26000x128.Idx → Elt F .f32) : sProp 𝕄 :=
  bigSep Finset.univ fun s : Fin 16 => tileTd d (at' c s) x t (tshare c s)

theorem deal (x : S106496.Idx → BitVec 32) (t : S26000x128.Idx → Elt F .f32) (f : S106496x128.Idx → Elt F .f32) :
    iprop((xLoc d ↦{fullShare} x) ∗ (tLoc d ↦{fullShare} t) ∗ (oLoc d ↦{fullShare} f))
      ⊢ (bigSep Finset.univ fun c : Fin 2 => coreGo d c x t : sProp 𝕄) := by
  have e : (bigSep Finset.univ fun c : Fin 2 => coreGo d c x t : sProp 𝕄)
      = iprop((bigSep Finset.univ fun c : Fin 2 => bigSep Finset.univ fun s : Fin 16 => xLoc d ↦{tshare c s} x)
          ∗ (bigSep Finset.univ fun c : Fin 2 => bigSep Finset.univ fun s : Fin 16 => tLoc d ↦{tshare c s} t)
          ∗ bigSep Finset.univ fun c : Fin 2 => bigSep Finset.univ fun s : Fin 16 => bigSep Finset.univ (rowsAny (F := F) d (at' c s))) := by
    rw [← bigSep_sep', ← bigSep_sep']
    refine bigSep_congr fun c _ => ?_
    rw [← bigSep_sep', ← bigSep_sep']
    rfl
  rw [e, shares_eq (xLoc d) x, shares_eq (tLoc d) t, chunks_eq d f]
  refine sep_mono .rfl (sep_mono .rfl ?_)
  exact bigSep_mono fun c _ => bigSep_mono fun s _ => bigSep_mono fun j _ => exists_intro (Φ := fun f : S106496x128.Idx → Elt F .f32 => (outc (at' c s) j).view.loc (thr d (at' c s)) ↦[(outc (at' c s) j).view.set]{fullShare} f) f

theorem undeal (x : S106496.Idx → BitVec 32) (t : S26000x128.Idx → Elt F .f32) :
    (bigSep Finset.univ fun c : Fin 2 => coreTd d c x t : sProp 𝕄)
      ⊢ iprop((xLoc d ↦{fullShare} x) ∗ (tLoc d ↦{fullShare} t) ∗ (oLoc d ↦{fullShare} rowsV x t)) := by
  have e : (bigSep Finset.univ fun c : Fin 2 => coreTd d c x t : sProp 𝕄)
      = iprop((bigSep Finset.univ fun c : Fin 2 => bigSep Finset.univ fun s : Fin 16 => xLoc d ↦{tshare c s} x)
          ∗ (bigSep Finset.univ fun c : Fin 2 => bigSep Finset.univ fun s : Fin 16 => tLoc d ↦{tshare c s} t)
          ∗ bigSep Finset.univ fun c : Fin 2 => bigSep Finset.univ fun s : Fin 16 => bigSep Finset.univ (rowsDone d (at' c s) x t)) := by
    rw [← bigSep_sep', ← bigSep_sep']
    refine bigSep_congr fun c _ => ?_
    rw [← bigSep_sep', ← bigSep_sep']
    rfl
  rw [e, shares_eq (xLoc d) x, shares_eq (tLoc d) t, chunks_eq d (rowsV x t)]

end Split

end Cert.Proof.I

end
-- ==== Proof.LaunchI.lean ====
/-
  The whole program's run: the host's operations, the gather on the tiles, the host's operations between, and the dense
  layers' pipeline, from any launch memory whose row numbers are in range.
-/
module

public import proofs.«01_k».proof.Proof.SplitI
public import Idealize.ShloMosaic.Lib.SparseCore.Quiescent

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S106496 EltTy.i32)
local notation "tV" => (Memref.whole Cert.KernelIdeal.main_v1_scv : Memref Cert.KernelIdeal.sig Kind.scVector Space.hbm Cert.KernelIdeal.S26000x128 EltTy.f32)
local notation "oV" => (Memref.whole Cert.KernelIdeal.main_v3_scv : Memref Cert.KernelIdeal.sig Kind.scVector Space.hbm Cert.KernelIdeal.S106496x128 EltTy.f32)
local notation "aV" => (Memref.whole Cert.KernelIdeal.cc0_scratch0 : Memref Cert.KernelIdeal.sig Kind.scVector Space.vmem Cert.KernelIdeal.S3328 EltTy.i32)
local notation "iV" => (Memref.whole Cert.KernelIdeal.cc0_scratch1 : Memref Cert.KernelIdeal.sig Kind.scVector Space.vmem Cert.KernelIdeal.S26x128 EltTy.i32)
local notation "rV" => (Memref.whole Cert.KernelIdeal.cc0_scratch2 : Memref Cert.KernelIdeal.sig Kind.scVector Space.vmem Cert.KernelIdeal.S2x256x128 EltTy.f32)

open Idealize.ShloMosaic.StableHlo

section Launch

variable (m : (ℓ : Loc nD τ sig) → Buf (Elt F) ℓ) (ρ : Dev nD → PrngReg)

theorem nSub_zero : (K (F := F)).nSub 0 = 16 := rfl
theorem nCore_zero : (K (F := F)).nCore 0 = 2 := rfl

instance tileGo_storable (d : Dev nD) (i : grid0.Coords) (x : S106496.Idx → BitVec 32) (t : S26000x128.Idx → Elt F .f32) (q : PosShare TreeShare) :
    BI.Storable (upEmb : UEmb _ 𝕄) (tileGo d i x t q) := by unfold tileGo; infer_instance
instance tileTd_storable (d : Dev nD) (i : grid0.Coords) (x : S106496.Idx → BitVec 32) (t : S26000x128.Idx → Elt F .f32) (q : PosShare TreeShare) :
    BI.Storable (upEmb : UEmb _ 𝕄) (tileTd d i x t q) := by unfold tileTd; infer_instance
instance coreGo_storable (d : Dev nD) (c : Fin 2) (x : S106496.Idx → BitVec 32) (t : S26000x128.Idx → Elt F .f32) :
    BI.Storable (upEmb : UEmb _ 𝕄) (coreGo d c x t) := by unfold coreGo; infer_instance
instance coreTd_storable (d : Dev nD) (c : Fin 2) (x : S106496.Idx → BitVec 32) (t : S26000x128.Idx → Elt F .f32) :
    BI.Storable (upEmb : UEmb _ 𝕄) (coreTd d c x t) := by unfold coreTd; infer_instance

theorem coreGo_eq (d : Dev nD) (c : Fin 2) (x : S106496.Idx → BitVec 32) (t : S26000x128.Idx → Elt F .f32) :
    coreGo d c x t = bigSep Finset.univ fun s : Fin 16 => tileGo d (coordsV c s) x t (tshare c s) := rfl
theorem coreTd_eq (d : Dev nD) (c : Fin 2) (x : S106496.Idx → BitVec 32) (t : S26000x128.Idx → Elt F .f32) :
    coreTd d c x t = bigSep Finset.univ fun s : Fin 16 => tileTd d (coordsV c s) x t (tshare c s) := rfl

attribute [local irreducible] tileGo tileTd coreGo coreTd xcat table

/-- What the call hands each core and each of its tiles, and what comes back. -/
def P : (K (F := F)).Pay (nD := nD) (Val := Elt F) (Name := ℕ) (U := UU) where
  st := fun q d c => match q with | 0 => coreGo d (Fin.cast nCore_zero c) (xcat m d) (table m d)
  dn := fun q d c => match q with | 0 => coreTd d (Fin.cast nCore_zero c) (xcat m d) (table m d)
  go := fun q d c i => match q with
    | 0 => tileGo d (coordsV (Fin.cast nCore_zero c) (Fin.cast nSub_zero i)) (xcat m d) (table m d) (tshare (Fin.cast nCore_zero c) (Fin.cast nSub_zero i))
  td := fun q d c i => match q with
    | 0 => tileTd d (coordsV (Fin.cast nCore_zero c) (Fin.cast nSub_zero i)) (xcat m d) (table m d) (tshare (Fin.cast nCore_zero c) (Fin.cast nSub_zero i))
  x := fun _ _ => iprop(emp)

instance P_storable : (P (F := F) m).IsStorable where
  st q d c := match q with
    | 0 => (inferInstance : BI.Storable (upEmb : UEmb _ 𝕄) (coreGo d (Fin.cast nCore_zero c) (xcat m d) (table m d)))
  dn q d c := match q with
    | 0 => (inferInstance : BI.Storable (upEmb : UEmb _ 𝕄) (coreTd d (Fin.cast nCore_zero c) (xcat m d) (table m d)))
  go q d c i := match q with
    | 0 => (inferInstance : BI.Storable (upEmb : UEmb _ 𝕄)
      (tileGo d (coordsV (Fin.cast nCore_zero c) (Fin.cast nSub_zero i)) (xcat m d) (table m d) (tshare (Fin.cast nCore_zero c) (Fin.cast nSub_zero i))))
  td q d c i := match q with
    | 0 => (inferInstance : BI.Storable (upEmb : UEmb _ 𝕄)
      (tileTd d (coordsV (Fin.cast nCore_zero c) (Fin.cast nSub_zero i)) (xcat m d) (table m d) (tshare (Fin.cast nCore_zero c) (Fin.cast nSub_zero i))))

/-- What the launch memory must say: the rows the lookups name are rows of the table. -/
def RowsOK : Prop := ∀ d : Dev nD, IdxOK (xcat m d)

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) tV (Memref.isWhole_whole _) oV (Memref.isWhole_whole _)
          aV (Memref.isWhole_whole _) iV (Memref.isWhole_whole _) rV (Memref.isWhole_whole _)
          cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hx : RowsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (hx d) (table m d) (tshare ⟨_, hci.1⟩ ⟨_, hci.2⟩) O W hO).trans (wp_mono frame _ _ fun _ => obl_post)

theorem core_split (d : Dev nD) (c : Fin 2) (x : S106496.Idx → BitVec 32) (t : S26000x128.Idx → Elt F .f32) :
    (coreGo d c x t : sProp 𝕄) ⊢ |={Set.univ}=> iprop((bigSep Finset.univ fun s : Fin 16 => tileGo d (coordsV c s) x t (tshare c s))
      ∗ ((bigSep Finset.univ fun s : Fin 16 => tileTd d (coordsV c s) x t (tshare c s)) -∗ coreTd d c x t)) := by
  rw [← coreGo_eq, ← coreTd_eq]
  iintro H; imodintro
  isplitl [H]; · iexact H
  iintro H; iexact H

theorem vecSplit : (K (F := F)).VecSplit' (P m) 0 := fun d c => core_split d (Fin.cast nCore_zero c) (xcat m d) (table m d)

/-! ## The launch's ghost state -/

abbrev upcells : UP := initOf (Pipeline.cells (Pipeline.pin (pcfgs (F := F)) adm) (launch1.cellOf_inj)) (Pipeline.launchToks (Pipeline.pin (pcfgs (F := F)) adm) (launch1.cellOf_inj))
def u₀ : UU := (initOf (K (F := F)).hsCells (K (F := F)).hsToks, (upcells (F := F), 1))

/-- What the dense layers' pipeline starts from. -/
def G (d : Dev nD) : sProp 𝕄 := iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) ((upcells (F := F), 1) : UP × Counters)) $$ Hu
  icases H with ⟨HH, HR⟩
  ihave HR := (own_pair_emb (embR : Emb (UP × Counters) 𝕄) (upcells (F := F)) (1 : Counters)) $$ HR
  icases HR with ⟨HP, -⟩
  ihave HP := (show (BI.own (((Emb.inl : Emb UP (UP × Counters)).trans (embR : Emb (UP × Counters) 𝕄)) (upcells (F := F))) : sProp 𝕄) ⊢ BI.own ((EP : Emb UP 𝕄) (upcells (F := F))) from .rfl) $$ HP
  ihave HG := (Pipeline.fund_ghost (Pipeline.pin (pcfgs (F := F)) adm) (EP : Emb UP 𝕄) (launch1.cellOf_inj)) $$ HP
  imod HG
  imodintro
  isplitl [HH]; · iexact HH
  isplitl [HG]
  · iapply (Entails.of_eq (show iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        = bigSep Finset.univ (G (F := F)) from by
      rw [← bigSep_sep']
      refine bigSep_congr fun c _ => ?_
      rw [bigSep_univ_of_subsingleton (0 : Fin 1), bigSep_univ_of_subsingleton (0 : Fin 1)]
      rfl))
    iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's program -/

abbrev S0 : Finset (DevRef τ sig) := Pipeline.ucRefs τ sig
abbrev Srest : Finset (DevRef τ sig) :=
  (((S0).erase (Proc.devRef .tc main_v2)).erase (Proc.devRef .tc main_v1)).erase (Proc.devRef .tc main_v3)

theorem mem_S0 (r : Ref sig .tc) (h : r.isScoped = false) : (Proc.devRef .tc r : DevRef τ sig) ∈ S0 :=
  Finset.mem_filter.mpr ⟨devRef_mem_tcRefs r, by rw [show (Proc.devRef .tc r : DevRef τ sig).isScoped = r.isScoped from rfl, h]; decide⟩

/-- The unscoped buffers, with the gather's three in front. -/
theorem held_three (d : Dev nD) (V : Valuation τ sig (Elt F)) :
    (held (d.tc : Thread nD τ) S0 V : sProp 𝕄)
      = iprop((xLoc d ↦{fullShare} V (Proc.devRef .tc main_v2)) ∗ (tLoc d ↦{fullShare} V (Proc.devRef .tc main_v1))
          ∗ (oLoc d ↦{fullShare} V (Proc.devRef .tc main_v3)) ∗ held (d.tc : Thread nD τ) Srest V) := by
  unfold held
  rw [SparseCore.bigSep_erase' (mem_S0 main_v2 rfl),
    SparseCore.bigSep_erase' (Finset.mem_erase.mpr ⟨fun e => absurd (Proc.devRef_injective _ e) (show (main_v1 : Ref sig .tc) ≠ main_v2 by decide), mem_S0 main_v1 rfl⟩),
    SparseCore.bigSep_erase' (Finset.mem_erase.mpr ⟨fun e => absurd (Proc.devRef_injective _ e) (show (main_v3 : Ref sig .tc) ≠ main_v1 by decide),
      Finset.mem_erase.mpr ⟨fun e => absurd (Proc.devRef_injective _ e) (show (main_v3 : Ref sig .tc) ≠ main_v2 by decide), mem_S0 main_v3 rfl⟩⟩)]

theorem held_rest (d : Dev nD) : (held (d.tc : Thread nD τ) Srest (V1 m d) : sProp 𝕄) = held (d.tc : Thread nD τ) Srest (V2 m d) := by
  unfold held
  refine bigSep_congr fun b hb => ?_
  rw [V2_ne m d b (Finset.ne_of_mem_erase hb)]

theorem V2_v2 (d : Dev nD) : V2 m d (Proc.devRef .tc main_v2) = xcat m d :=
  (V2_ne m d _ fun e => absurd (Proc.devRef_injective _ e) (show (main_v2 : Ref sig .tc) ≠ main_v3 by decide)).trans (V1_v2 m d)
theorem V2_v1 (d : Dev nD) : V2 m d (Proc.devRef .tc main_v1) = table m d :=
  (V2_ne m d _ fun e => absurd (Proc.devRef_injective _ e) (show (main_v1 : Ref sig .tc) ≠ main_v3 by decide)).trans (V1_v1 m d)

theorem st0 (d : Dev nD) : (bigSep Finset.univ fun c : Fin ((K (F := F)).nCore 0) => (P m).st 0 d c)
    = bigSep Finset.univ fun c : Fin 2 => coreGo d c (xcat m d) (table m d) := rfl
theorem dn0 (d : Dev nD) : (bigSep Finset.univ fun c : Fin ((K (F := F)).nCore 0) => (P m).dn 0 d c)
    = bigSep Finset.univ fun c : Fin 2 => coreTd d c (xcat m d) (table m d) := rfl

/-- The gather's call. -/
theorem stage_gather (κ : GSem nD τ sig → ℕ) (d : Dev nD) {Q : PUnit → sProp 𝕄} :
    iprop((K (F := F)).ctx EH (P m) κ ∗ (K (F := F)).tcSt EH d 0 ∗ held (d.tc : Thread nD τ) S0 (V1 m d)
        ∗ (iprop((K (F := F)).tcSt EH d 1 ∗ held (d.tc : Thread nD τ) S0 (V2 m d)) -∗ Q ⟨⟩))
      ⊢ wp frame (wpE ((K (F := F)).defs (D (F := F))) 𝒱 (SparseCore.T d) none) Set.univ ((K (F := F)).run d 0) Q := by
  rw [held_three d (V1 m d), held_three d (V2 m d), V1_v2, V1_v1, V2_v2, V2_v1, V2_v3, held_rest]
  iintro ⟨#Hctx, Hst, ⟨Hx, Ht, Ho, Hr⟩, Hk⟩
  iapply ((K (F := F)).wp_run (D (F := F)) 𝒱 (EH := EH) (P := P m) κ d 0)
  isplitr; · iexact Hctx
  isplitl [Hst]; · iexact Hst
  isplitl [Hx Ht Ho]
  · rw [st0]
    iapply (deal d (xcat m d) (table m d) (V1 m d (Proc.devRef .tc main_v3)))
    isplitl [Hx]; · iexact Hx
    isplitl [Ht]; · iexact Ht
    iexact Ho
  rw [dn0]
  iintro ⟨Hst, Hdn⟩
  ihave H := (undeal d (xcat m d) (table m d)) $$ Hdn
  icases H with ⟨Hx, Ht, Ho⟩
  iapply Hk
  isplitl [Hst]; · iexact Hst
  isplitl [Hx]; · iexact Hx
  isplitl [Ht]; · iexact Ht
  isplitl [Ho]; · iexact Ho
  iexact Hr

/-- The contents the dense layers find, and leave. -/
abbrev Vin : Vals (F := F) := fun c b => V3 m c (Proc.devRef .tc b)

theorem tc_levAts (κ : GSem nD τ sig → ℕ) : (K (F := F)).ctx EH (P m) κ ⊢ (levAts (K (F := F)).L (K (F := F)).lev : sProp 𝕄) :=
  (K (F := F)).ctx_levAts κ

theorem idle_tc (d : Dev nD) :
    (iprop(∃ W, ⌜(K (F := F)).WBelow (SparseCore.T d) W (8 * SparseCore.Cfg.Blocks.fst 1 1 1)⌝ ∗ owes (SparseCore.T d) 0 W) : sProp 𝕄) ⊣⊢ idle (F := F) d :=
  ⟨.rfl, .rfl⟩

set_option backward.isDefEq.respectTransparency.types false in
/-- The dense layers' call. -/
theorem stage_dense [∀ e, Nonempty (Elt F e)] (κ : GSem nD τ sig → ℕ) (d : Dev nD) {Q : PUnit → sProp 𝕄} :
    iprop((K (F := F)).ctx EH (P m) κ ∗ (K (F := F)).tcSt EH d 1 ∗ boundary (d.tc : Thread nD τ) ∗ unscopedBufs d (Vin m d) ∗ G d
        ∗ (iprop((K (F := F)).tcSt EH d 1 ∗ boundary (d.tc : Thread nD τ) ∗ unscopedBufs d (Vout (Vin m) d)) -∗ Q ⟨⟩))
      ⊢ wp frame (wpE ((K (F := F)).defs (D (F := F))) 𝒱 (SparseCore.T d) none) Set.univ (denseCall (F := F)) Q := by
  unfold SparseCore.Cfg.tcSt G
  rw [(K (F := F)).Otc_end d (le_refl 1)]
  iintro ⟨#Hctx, ⟨Hidle, Hat, #Hrd, #Hrs, Htoks⟩, Hb, Hbufs, ⟨Hg, Htk⟩, Hk⟩
  ihave Hlv := (tc_levAts m κ) $$ Hctx
  iapply (show wp frame (wpE (D (F := F)) 𝒱 (SparseCore.T d) none) Set.univ (Prog.lift (.customCall (Pipeline.entry 0) ())) Q
      ⊢ wp frame (wpE ((K (F := F)).defs (D (F := F))) 𝒱 (SparseCore.T d) none) Set.univ (denseCall (F := F)) Q from
    (K (F := F)).wp_liftProg (D (F := F)) 𝒱 (SparseCore.T d) Set.univ none (Prog.lift (.customCall (Pipeline.entry 0) ())) Q)
  iapply (Pipeline.RegionSeg.wp (pcfgs (F := F)) adm (pdats (Vin m)) none (launch1.cellOf_inj) (EP : Emb UP 𝕄) defs₀ 𝒱₀ (K (F := F)).L (K (F := F)).lev
    (reg (Vin m)) d none (fun _ h => nomatch h) (fun _ => .ret ⟨⟩) Q)
  isplitl [Hk Hat Htoks]
  · iintro ⟨Hb, Hp⟩
    ihave Hp := (show (reg (Vin m)).post d ⊢ iprop(unscopedBufs d (Vout (Vin m) d) ∗ idle (F := F) d) from .rfl) $$ Hp
    icases Hp with ⟨Hbufs, Hidle⟩
    sl_step
    iapply Hk
    isplitl [Hidle Hat Htoks]
    · isplitl [Hidle]; · iapply (idle_tc (F := F) d).2; iexact Hidle
      isplitl [Hat]; · iexact Hat
      isplitr; · iexact Hrd
      isplitr; · iexact Hrs
      iexact Htoks
    isplitl [Hb]; · iexact Hb
    iexact Hbufs
  isplitl [Hb]; · iexact Hb
  isplitl [Hbufs Hidle]
  · iapply (show iprop(unscopedBufs d (Vin m d) ∗ idle (F := F) d) ⊢ (reg (Vin m)).pre d from .rfl)
    isplitl [Hbufs]; · iexact Hbufs
    iapply (idle_tc (F := F) d).1; iexact Hidle
  isplitr; · iexact Hlv
  isplitl [Hg]; · iexact Hg
  iexact Htk

/-- What the TensorCore ends with. -/
def FIN (d : Dev nD) : sProp 𝕄 := unscopedBufs d (Vout (Vin m) d)

theorem held_of_unscoped (d : Dev nD) (W : Valuation τ sig (Elt F)) :
    (unscopedBufs d (fun b => W (Proc.devRef .tc b)) : sProp 𝕄) = held (d.tc : Thread nD τ) S0 W :=
  Pipeline.unscopedBufs_held (Ix := HIx 1) (Name := ℕ) (U := UU) (Lvl := ℕ) d W

theorem ops_mem {ops : List (HloOp τ sig (Elt F))} (h : ops.Forall fun op => op.bufs ⊆ tcRefs τ sig) : ∀ op ∈ ops, op.bufs ⊆ S0 :=
  fun op ho => Pipeline.sub_ucRefs op ((List.forall_iff_forall_mem.mp h) op ho)
theorem ops_fresh {ops : List (HloOp τ sig (Elt F))} (h : ops.Forall fun op => op.fresh = ∅) : ∀ op ∈ ops, op.fresh = ∅ :=
  fun op ho => (List.forall_iff_forall_mem.mp h) op ho

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [main_eq, show (unscopedBufs d (fun b => m ((SparseCore.T d).loc b)) : sProp 𝕄) = held (d.tc : Thread nD τ) S0 (V0 m d) from held_of_unscoped d (V0 m d)]
  iintro ⟨#Hctx, Hst, ⟨Hb, Hbufs, Hts, -⟩, Hg⟩
  iapply (wp_seq 𝒱 none Set.univ d S0 _ ops1 (ops_mem ops1_sub) (ops_fresh ops1_fresh) (V0 m d)) $$ [Hb Hbufs]
  · isplitl [Hb]; · iexact Hb
    iexact Hbufs
  iintro ⟨Hb, Hbufs⟩
  rw [wp_bind]
  iapply (stage_gather m κ d)
  isplitr; · iexact Hctx
  isplitl [Hst]; · iexact Hst
  isplitl [Hbufs]; · iexact Hbufs
  iintro ⟨Hst, Hbufs⟩
  iapply (wp_seq 𝒱 none Set.univ d S0 _ ops2 (ops_mem ops2_sub) (ops_fresh ops2_fresh) (V2 m d)) $$ [Hb Hbufs]
  · isplitl [Hb]; · iexact Hb
    iexact Hbufs
  iintro ⟨Hb, Hbufs⟩
  rw [wp_bind]
  iapply (stage_dense m κ d)
  isplitr; · iexact Hctx
  isplitl [Hst]; · iexact Hst
  isplitl [Hb]; · iexact Hb
  isplitl [Hbufs]; · iapply (Entails.of_eq (held_of_unscoped d (V3 m d)).symm); iexact Hbufs
  isplitl [Hg]; · iexact Hg
  iintro ⟨Hst, Hb, Hbufs⟩
  rw [wp_pure]
  imodintro
  isplitl [Hst]; · iexact Hst
  isplitl [Hbufs]; · iexact Hbufs
  isplitl [Hb]; · iexact Hb
  iexact Hts

theorem agree_refs (d : Dev nD) (W : (b : Ref sig .tc) → Buf (Elt F) ((d.tc : Thread nD τ).loc b)) (B : Finset (Ref sig .tc)) (s' : Phys nD τ sig (Elt F)) :
    iprop(SI s' ∗ bigSep B fun b => (d.tc : Thread nD τ).loc b ↦{fullShare} W b) ⊢ (⌜∀ b ∈ B, s'.mem.mem ((d.tc : Thread nD τ).loc b) = W b⌝ : sProp 𝕄) := by
  induction B using Finset.induction_on with
  | empty => iintro -; ipureintro; simp
  | insert b B hb ih =>
    rw [bigSep_insert hb]
    refine (show iprop(SI s' ∗ (((d.tc : Thread nD τ).loc b ↦{fullShare} W b) ∗ bigSep B (fun b => (d.tc : Thread nD τ).loc b ↦{fullShare} W b))) ⊢ _ from ?_)
    iintro ⟨HSI, Hb, HB⟩
    ihave H := (persistent_entails_right (SI_pointsTo_agree (st := s') (ℓ := (d.tc : Thread nD τ).loc b) (I := Finset.univ) (q := fullShare) (f := W b))) $$ [HSI Hb]
    · isplitl [HSI] <;> iassumption
    icases H with ⟨%h1, HSI, -⟩
    ihave %h2 := ih $$ [HSI HB]
    · isplitl [HSI] <;> iassumption
    ipureintro
    intro b' hb'
    rcases Finset.mem_insert.mp hb' with rfl | hb'
    · exact funext fun i => h1 i (Finset.mem_univ i)
    · exact h2 b' hb'

def fq (d : Dev nD) (s' : Phys nD τ sig (Elt F)) : Prop :=
  ∀ b : Ref sig .tc, b.isScoped = false → s'.mem.mem ((d.tc : Thread nD τ).loc b) = Vout (Vin m) d b

theorem hfin (d : Dev nD) (s' : Phys nD τ sig (Elt F)) : iprop(FIN m d ∗ SI s') ⊢ (⌜fq m d s'⌝ : sProp 𝕄) := by
  unfold FIN unscopedBufs
  refine (sep_comm.trans (agree_refs d _ _ s')).trans (pure_mono fun h b hb => h b ?_)
  exact (Finset.mem_filter.mpr ⟨Finset.mem_univ b, by rw [hb]; decide⟩)

/-- What the program leaves in memory: the result of the dense layers, everything else the host wrote, and the arguments. -/
def QC : PUnit × MemSt nD τ sig (Elt F) → Prop := fun r => (∀ c : Dev nD, ∀ b : Ref sig .tc, b.isScoped = false → r.2.mem ((c.tc : Thread nD τ).loc b) = Vout (Vin m) c b) ∧ r.2.sem = fun _ => 0

theorem run_main [∀ e, Nonempty (Elt F e)] (hx : RowsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hx)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Launch

end Cert.Proof.I

end
-- ==== Proof.FrameI.lean ====
/-
  The run, read at the arguments: from row numbers below a field's table's length, everything the program is given it
  leaves as it was.
-/
module

public import proofs.«01_k».proof.Proof.LaunchI

@[expose] public section

noncomputable section

namespace Cert.Proof.I

open Cert.KernelIdeal Cert.KernelIdeal.Gen Cert.GatherBatch
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

section Range

variable (m : (ℓ : Loc nD τ sig) → Buf (Elt F) ℓ) (ρ : Dev nD → PrngReg)

/-- Every row number is below a field's table's length. -/
def InVocab : Prop := ∀ (d : Dev nD) (j : S4096x26.Idx), ((m ((d.tc : Thread nD τ).loc main_arg0) : S4096x26.Idx → BitVec 32) j).toNat < 1000

theorem rowsOK_of_inVocab (h : InVocab m) : RowsOK m := by
  intro d p
  have hx : (xcat m d (ix1 p)).toNat < 1000 := h d _
  have hp : p.val % 26 < 26 := Nat.mod_lt _ (by decide)
  unfold idxW
  rw [BitVec.toNat_add, BitVec.toNat_ofNat, Nat.mod_eq_of_lt (a := p.val % 26 * 1000) (by omega), Nat.mod_eq_of_lt (by omega)]
  omega

theorem arg_kept (d : Dev nD) (r : Ref sig .tc) (h : r ∉ W2) (h' : r ∉ W1) (h'' : r ≠ main_v3) (h3 : r ≠ main_v16) :
    Vout (Vin m) d r = m ((d.tc : Thread nD τ).loc r) :=
  (Vout_ne (Vin m) d r h3).trans (V3_keep m d r h h' h'')

/-- The run's end: the result, the arguments as they were, the semaphores at zero. -/
theorem run_args [∀ e, Nonempty (Elt F e)] (h : InVocab m) :
    θ_run (Cert.KernelIdeal.defs (F := F)) (Cert.KernelIdeal.threads (F := F)) ⟨m, fun _ => 0, ρ⟩ (fun r => (∀ c : Dev nD,
      r.2.mem ((c.tc : Thread nD τ).loc main_v16) = outArr (Vin m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run (Cert.KernelIdeal.defs (F := F)) _ _).mono (fun r hr => ⟨fun c => ?_, hr.2⟩) (run_main m ρ (rowsOK_of_inVocab m h))
  have k (r' : Ref sig .tc) (hs : r'.isScoped = false) (h2 : r' ∉ W2) (h1 : r' ∉ W1) (h3 : r' ≠ main_v3) (h4 : r' ≠ main_v16) :
      r.2.mem ((c.tc : Thread nD τ).loc r') = m ((c.tc : Thread nD τ).loc r') := (hr.1 c r' hs).trans (arg_kept m c r' h2 h1 h3 h4)
  exact ⟨(hr.1 c main_v16 rfl).trans (Vout_out (Vin m) c),
    k main_arg0 rfl (by decide) (by decide) (by decide) (by decide),
    k main_arg1 rfl (by decide) (by decide) (by decide) (by decide),
    k main_arg2 rfl (by decide) (by decide) (by decide) (by decide),
    k main_arg3 rfl (by decide) (by decide) (by decide) (by decide),
    k main_arg4 rfl (by decide) (by decide) (by decide) (by decide),
    k main_arg5 rfl (by decide) (by decide) (by decide) (by decide),
    k main_arg6 rfl (by decide) (by decide) (by decide) (by decide),
    k main_arg7 rfl (by decide) (by decide) (by decide) (by decide),
    k main_arg8 rfl (by decide) (by decide) (by decide) (by decide),
    k main_arg9 rfl (by decide) (by decide) (by decide) (by decide),
    k main_arg10 rfl (by decide) (by decide) (by decide) (by decide)⟩

end Range

end Cert.Proof.I

end
-- ==== Proof.PreOk.lean ====
/-
  The precondition, read: every row number is below a field's table's length.
-/
module

public import proofs.«01_k».proof.Proof.Gen.Pre_in_vocab

@[expose] public section

noncomputable section

namespace Cert.Proof

open Idealize.ShloMosaic Cert.Pre_in_vocab Cert.Pre_in_vocab.Gen

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem word_in_range (v : BitVec 32) (e : IntOp.andi (IntOp.cmpi .sge v 0#32) (IntOp.cmpi .slt v 1000#32) = 1#1) : v.toNat < 1000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem range_of_pre {F : FTy → Type} [FloatOps F] (a0 : IVec S4096x26 32) (a1 : FVec F S4096x13 .f32) (a2 : FVec F S26x1000x50 .f32)
    (a3 : FVec F S1313x1024 .f32) (a4 : FVec F S1024 .f32) (a5 : FVec F S1024x512 .f32) (a6 : FVec F S512 .f32) (a7 : FVec F S512x1024 .f32)
    (a8 : FVec F S1024 .f32) (a9 : FVec F S1024x1313 .f32) (a10 : FVec F S1313 .f32)
    (h : Cert.Pre_in_vocab.fn a0 a1 a2 a3 a4 a5 a6 a7 a8 a9 a10 = fun _ => 1#1) (j : S4096x26.Idx) : (a0 j).toNat < 1000 := by
  have e := congrFun h j
  simp only [Cert.Pre_in_vocab.fn, andi, cmpi, broadcastInDim, constantI] at e
  exact word_in_range _ e

end Cert.Proof

end
-- ==== Proof.MlpI.lean ====
/-
  The perceptron's layers, at an element

  `tail h` is the second, third and fourth layer over the extended reals, from the first layer's outputs `h` of one row:
  a row's result at one column.  A block of the TensorCore call is `tail` of its row's first layer.
-/
module

public import proofs.«01_k».proof.Proof.RegionI
public import Idealize.ShloMosaic.Lib.Pointwise
public import Idealize.ShloMosaic.PureOps.Ideal.Laws

@[expose] public section

noncomputable section

namespace Cert.Proof.Value

open Cert.KernelIdeal Cert.KernelIdeal.Gen
open Idealize.ShloMosaic

/-- The layers after the first, at column `n`. -/
def tail (h : Fin 1024 → EReal) (w2 : S1024x512.Idx → EReal) (b2 : Fin 512 → EReal) (w3 : S512x1024.Idx → EReal) (b3 : Fin 1024 → EReal)
    (w4 : S1024x1313.Idx → EReal) (b4 : Fin 1313 → EReal) (n : Fin 1313) : EReal :=
  (∑ k : Fin 1024, max ((∑ l : Fin 512, ((∑ j : Fin 1024, h j * w2 (ix2 j l)) + b2 l) * w3 (ix2 l k)) + b3 k) 0 * w4 (ix2 k n)) + b4 n

/-- A block of the TensorCore call, at an element. -/
theorem mlpBlk_apply (x0 : S512x3328.Idx → EReal) (x1 : S512x13.Idx → EReal) (x2 : S3328x1024.Idx → EReal) (x3 : S13x1024.Idx → EReal)
    (x4 : S1x1024.Idx → EReal) (x5 : S1024x512.Idx → EReal) (x6 : S1x512.Idx → EReal) (x7 : S512x1024.Idx → EReal) (x8 : S1x1024.Idx → EReal)
    (x9 : S1024x1313.Idx → EReal) (x10 : S1x1313.Idx → EReal) (r : Fin 512) (n : Fin 1313) :
    I.mlpBlk (F := Ideal) x0 x1 x2 x3 x4 x5 x6 x7 x8 x9 x10 (ix2 r n)
      = tail (fun j => max ((∑ q : Fin 3328, x0 (ix2 r q) * x2 (ix2 q j)) + (∑ q : Fin 13, x1 (ix2 r q) * x3 (ix2 q j)) + x4 (ix2 0 j)) 0)
          x5 (fun l => x6 (ix2 0 l)) x7 (fun k => x8 (ix2 0 k)) x9 (fun k => x10 (ix2 0 k)) n := by
  unfold I.mlpBlk tail
  pointwise [k1_pay1, k1_pay2]

end Cert.Proof.Value

end
-- ==== Proof.OutI.lean ====
/-
  The kernel's result, at an element

  The array the TensorCore call leaves is, block by block, `tail` of the first layer over the gathered rows and the
  padded weights.
-/
module

public import proofs.«01_k».proof.Proof.MlpI
public import proofs.«01_k».proof.Proof.LaunchI
public import Idealize.ShloMosaic.Lib.Pipeline.ValueKit

@[expose] public section

noncomputable section

namespace Cert.Proof.Value

open Cert.KernelIdeal Cert.KernelIdeal.Gen
open Idealize.ShloMosaic Idealize.ShloMosaic.TcCoe
open Idealize.SL Idealize.SL.Sem

/-- The first layer, its gathered features padded. -/
def hidK (x : S4096x3328.Idx → EReal) (w : S3328x1024.Idx → EReal) (a1 : S4096x13.Idx → EReal) (w1 : S13x1024.Idx → EReal) (b1 : S1x1024.Idx → EReal)
    (R : Fin 4096) (j : Fin 1024) : EReal :=
  max ((∑ q : Fin 3328, x (ix2 R q) * w (ix2 q j)) + (∑ q : Fin 13, a1 (ix2 R q) * w1 (ix2 q j)) + b1 (ix2 0 j)) 0

theorem idx_row : ∀ t : Fin cfg1.N, win1_0.index t = ![t.val, 0] ∧ win1_1.index t = ![t.val, 0] ∧ win1_11.index t = ![t.val, 0] :=
  (by decide +kernel : ∀ t : Fin grid1.N, _)
theorem idx_whole : ∀ t : Fin cfg1.N, win1_2.index t = ![0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0] ∧ win1_10.index t = ![0, 0] :=
  (by decide +kernel : ∀ t : Fin grid1.N, _)

section Blocks

variable (V : I.Vals (F := Ideal)) (c : Dev nD) (t : Fin cfg1.N)

/-- Row `r` of block `t`. -/
def row (t : Fin cfg1.N) (r : Fin 512) : Fin 4096 := ⟨512 * t.val + r.val, by have h : t.val < 8 := t.isLt; have := r.isLt; omega⟩

theorem iblk0 (r : Fin 512) (q : Fin 3328) : I.iblk V c 0 t (ix2 r q) = V c main_v4 (ix2 (row t r) q) := by
  obtain ⟨h, -, -⟩ := idx_row t
  unfold row
  blk_ext [I.iblk, h]
theorem iblk1 (r : Fin 512) (q : Fin 13) : I.iblk V c 1 t (ix2 r q) = V c main_arg1 (ix2 (row t r) q) := by
  obtain ⟨-, h, -⟩ := idx_row t
  unfold row
  blk_ext [I.iblk, h]
theorem iblk2 : I.iblk V c 2 t = V c main_v10 := by
  obtain ⟨h, -⟩ := idx_whole t
  funext x
  blk_ext [I.iblk, h]
theorem iblk3 : I.iblk V c 3 t = V c main_v11 := by
  obtain ⟨-, h, -⟩ := idx_whole t
  funext x
  blk_ext [I.iblk, h]
theorem iblk4 : I.iblk V c 4 t = V c main_v12 := by
  obtain ⟨-, -, h, -⟩ := idx_whole t
  funext x
  blk_ext [I.iblk, h]
theorem iblk5 : I.iblk V c 5 t = V c main_arg5 := by
  obtain ⟨-, -, -, h, -⟩ := idx_whole t
  funext x
  blk_ext [I.iblk, h]
theorem iblk6 : I.iblk V c 6 t = V c main_v13 := by
  obtain ⟨-, -, -, -, h, -⟩ := idx_whole t
  funext x
  blk_ext [I.iblk, h]
theorem iblk7 : I.iblk V c 7 t = V c main_arg7 := by
  obtain ⟨-, -, -, -, -, h, -⟩ := idx_whole t
  funext x
  blk_ext [I.iblk, h]
theorem iblk8 : I.iblk V c 8 t = V c main_v14 := by
  obtain ⟨-, -, -, -, -, -, h, -⟩ := idx_whole t
  funext x
  blk_ext [I.iblk, h]
theorem iblk9 : I.iblk V c 9 t = V c main_arg9 := by
  obtain ⟨-, -, -, -, -, -, -, h, -⟩ := idx_whole t
  funext x
  blk_ext [I.iblk, h]
theorem iblk10 : I.iblk V c 10 t = V c main_v15 := by
  obtain ⟨-, -, -, -, -, -, -, -, h⟩ := idx_whole t
  funext x
  blk_ext [I.iblk, h]

/-- What a block's point leaves, at an element. -/
theorem oblk_apply (r : Fin 512) (n : Fin 1313) : I.oblk V c t (ix2 r n)
    = tail (hidK (V c main_v4) (V c main_v10) (V c main_arg1) (V c main_v11) (V c main_v12) (row t r)) (V c main_arg5) (fun l => V c main_v13 (ix2 0 l))
        (V c main_arg7) (fun k => V c main_v14 (ix2 0 k)) (V c main_arg9) (fun k => V c main_v15 (ix2 0 k)) n := by
  unfold I.oblk
  rw [iblk2, iblk3, iblk4, iblk5, iblk6, iblk7, iblk8, iblk9, iblk10]
  refine (mlpBlk_apply _ _ _ _ _ _ _ _ _ _ _ r n).trans ?_
  simp only [iblk0, iblk1]
  rfl

/-- The result array. -/
theorem outArr_eq : I.outArr V c = fun i : S4096x1313.Idx =>
    tail (hidK (V c main_v4) (V c main_v10) (V c main_arg1) (V c main_v11) (V c main_v12) (i 0)) (V c main_arg5) (fun l => V c main_v13 (ix2 0 l))
        (V c main_arg7) (fun k => V c main_v14 (ix2 0 k)) (V c main_arg9) (fun k => V c main_v15 (ix2 0 k)) (i 1) := by
  refine (I.dat V c).arrAt_eq_of_covers 11 _ (by decide +kernel) fun t _ y => ?_
  obtain ⟨-, -, h⟩ := idx_row t
  have e : (I.dat V c).after 11 t = I.oblk V c t := rfl
  blk_simp
  rw [e]
  have ey : y = ix2 (y 0) (y 1) := eq_ix2 y
  have e0 : ((cfg1.win 11).blk t).view.emb y 0 = row t (y 0) := by
    apply Fin.ext; unfold row; blk_simp [h]; dsimp only; omega
  have e1 : ((cfg1.win 11).blk t).view.emb y 1 = y 1 := by
    apply Fin.ext; blk_simp [h]
  exact (congrArg (I.oblk V c t) ey).trans ((oblk_apply V c t (y 0) (y 1)).trans
    (congrArg₂ (fun (R : Fin 4096) (n : Fin 1313) => tail (hidK (V c main_v4) (V c main_v10) (V c main_arg1) (V c main_v11) (V c main_v12) R) (V c main_arg5)
      (fun l => V c main_v13 (ix2 0 l)) (V c main_arg7) (fun k => V c main_v14 (ix2 0 k)) (V c main_arg9) (fun k => V c main_v15 (ix2 0 k)) n) e0.symm e1.symm))

end Blocks

end Cert.Proof.Value

end
-- ==== Proof.FirstI.lean ====
/-
  The first layer, padded and not

  The gathered rows are the embedding rows, each field's fifty columns followed by zeros to 128; the first layer's weights
  are laid out alike.  The padded product is the product without the padding.
-/
module

public import proofs.«01_k».proof.Proof.FrameI
public import Idealize.ShloMosaic.Lib.Pointwise
public import Idealize.ShloMosaic.Lib.Routing.OpsSet
public import Idealize.ShloMosaic.Lib.Routing.OpsPair

@[expose] public section

noncomputable section

namespace Cert.Proof.Value

open Cert.KernelIdeal Cert.KernelIdeal.Gen
open Idealize.ShloMosaic Idealize.ShloMosaic.TcCoe
open Idealize.SL Idealize.SL.Sem

/-- A table of fifty columns padded with zeros to 128, at an element. -/
theorem pad_apply (a2 : S26x1000x50.Idx → EReal) (p : Fin 26000) (e : Fin 128) :
    pad S26000x128 ![0, 0] ![0, 78] ![0, 0] (shapeCast S26000x50 a2 shapeCasts_S26x1000x50_S26000x50)
      (sitofp (F := Ideal) .f32 (constantI S_ 32 0#32)) pads_S26000x50_S26000x128_000_0780 h_S_ (ix2 p e)
    = if he : e.val < 50 then a2 (ix3 ⟨p.val / 1000, by omega⟩ ⟨p.val % 1000, by omega⟩ ⟨e.val, he⟩) else (0 : EReal) := by
  generalize hz : sitofp (F := Ideal) .f32 (constantI S_ 32 0#32) = z
  pointwise
  have hz0 : z (Shape.Idx.first h_S_) = (0 : EReal) := by
    rw [← hz]
    show (((0#32 : BitVec 32).toInt : ℝ) : EReal) = 0
    simp
  rw [hz0]

/-- The weights' scatter, at an element it writes. -/
theorem scatter_apply (x0 : S26x128x1024.Idx → EReal) (idx : IVec S1 32) (h : ∀ i, idx i = 0#32) (upd : S26x50x1024.Idx → EReal)
    (f : Fin 26) (e : Fin 128) (he : e.val < 50) (j : Fin 1024) :
    Host.scatter scatter_S26x128x1024_S1_S26x50x1024_012_n_1_0 (fun _ b => b) x0 idx upd (ix3 f e j) = upd (ix3 f ⟨e.val, he⟩ j) := by
  have hs : ∀ (k : S26x50x1024.Idx) a, ScatterDims.start scatter_S26x128x1024_S1_S26x50x1024_012_n_1_0 k idx a = 0 := fun k a => by
    unfold ScatterDims.start
    split
    · rw [h]; rfl
    · rfl
  have hw (k : S26x50x1024.Idx) : ScatterDims.resultIdx? scatter_S26x128x1024_S1_S26x50x1024_012_n_1_0 k idx = some (ix3 f e j)
      ↔ (k 0).val = f.val ∧ (k 1).val = e.val ∧ (k 2).val = j.val := by
    rw [Routing.resultIdx?_eq_some]
    constructor
    · intro q
      have q0 := q 0
      have q1 := q 1
      have q2 := q 2
      rw [hs, Int.zero_add, Int.ofNat_inj] at q0 q1 q2
      exact ⟨q0, q1, q2⟩
    · rintro ⟨q0, q1, q2⟩ a
      rw [hs, Int.zero_add, Int.ofNat_inj]
      match a with
      | ⟨0, _⟩ => exact q0
      | ⟨1, _⟩ => exact q1
      | ⟨2, _⟩ => exact q2
  refine Routing.scatter_set_hit _ x0 idx upd _ _ (fun k hk => congrArg upd (funext fun a => Fin.ext ?_)) (ix3 f ⟨e.val, he⟩ j) ((hw _).2 ⟨rfl, rfl, rfl⟩)
  obtain ⟨q0, q1, q2⟩ := (hw k).1 hk
  match a with
  | ⟨0, _⟩ => exact q0
  | ⟨1, _⟩ => exact q1
  | ⟨2, _⟩ => exact q2

variable (m : (ℓ : Loc nD τ sig) → Buf (Elt Ideal) ℓ) (d : Dev nD)

/-- A gathered row's element. -/
theorem emb_apply (R : Fin 4096) (q : Fin 3328) : I.emb m d (ix2 R q)
    = I.rowsV (I.xcat m d) (I.table m d) (ix2 ⟨R.val * 26 + q.val / 128, by omega⟩ ⟨q.val % 128, by omega⟩) := by
  unfold I.emb
  pointwise

/-- The index the gather reads for field `f` of batch row `R`. -/
theorem xcat_apply (R : Fin 4096) (f : Fin 26) (h : R.val * 26 + f.val < 106496) : I.xcat m d (ix1 ⟨R.val * 26 + f.val, h⟩)
    = (m ((d.tc : Thread nD τ).loc main_arg0) : S4096x26.Idx → BitVec 32) (ix2 R f) := by
  unfold I.xcat
  pointwise

/-- A padded weight that is no padding. -/
theorem wcat_apply (q : Fin 3328) (j : Fin 1024) (hq : q.val % 128 < 50) : I.wcat m d (ix2 q j)
    = (m ((d.tc : Thread nD τ).loc main_arg3) : S1313x1024.Idx → EReal) (ix2 ⟨q.val / 128 * 50 + q.val % 128, by omega⟩ j) := by
  unfold I.wcat
  pointwise
  refine (scatter_apply _ _ (fun _ => rfl) _ ⟨q.val / 128, by omega⟩ ⟨q.val % 128, by omega⟩ hq j).trans ?_
  pointwise

/-- An embedding row's element: field `f`, batch row `R`, column `e`. -/
def look (a0 : S4096x26.Idx → BitVec 32) (a2 : S26x1000x50.Idx → EReal) (h : ∀ j, (a0 j).toNat < 1000) (R : Fin 4096) (f : Fin 26) (e : Fin 50) : EReal :=
  a2 (ix3 f ⟨(a0 (ix2 R f)).toNat, h _⟩ e)

/-- A gathered row's element: the embedding row's, then zeros. -/
theorem emb_look (h : I.InVocab m) (R : Fin 4096) (f : Fin 26) (e : Fin 128) :
    I.emb m d (ix2 R ⟨128 * f.val + e.val, by omega⟩)
      = if he : e.val < 50 then look (m ((d.tc : Thread nD τ).loc main_arg0)) (m ((d.tc : Thread nD τ).loc main_arg2)) (h d) R f ⟨e.val, he⟩ else 0 := by
  have hf := f.isLt
  have he := e.isLt
  have hR := R.isLt
  have ha := h d (ix2 R f)
  have hd : (128 * f.val + e.val) / 128 = f.val := by omega
  have hm : (128 * f.val + e.val) % 128 = e.val := by omega
  have hw : (I.idxW (I.xcat m d) ⟨R.val * 26 + f.val, by omega⟩).toNat
      = ((m ((d.tc : Thread nD τ).loc main_arg0) : S4096x26.Idx → BitVec 32) (ix2 R f)).toNat + f.val * 1000 := by
    have ex : I.xcat m d (ValueIdx.ix1 ⟨R.val * 26 + f.val, by omega⟩) = (m ((d.tc : Thread nD τ).loc main_arg0) : S4096x26.Idx → BitVec 32) (ix2 R f) := xcat_apply m d R f _
    unfold I.idxW
    rw [ex, BitVec.toNat_add, BitVec.toNat_ofNat]
    have h26 : (R.val * 26 + f.val) % 26 = f.val := by omega
    dsimp only
    rw [h26, Nat.mod_eq_of_lt (a := f.val * 1000) (by omega), Nat.mod_eq_of_lt (by omega)]
  rw [emb_apply]
  simp only [hd, hm]
  refine (pad_apply (m ((d.tc : Thread nD τ).loc main_arg2)) ⟨(I.idxW (I.xcat m d) ⟨R.val * 26 + f.val, by omega⟩).toNat % 26000, Nat.mod_lt _ (by decide)⟩ e).trans ?_
  simp only [hw, look]
  have h1 : (((m ((d.tc : Thread nD τ).loc main_arg0) : S4096x26.Idx → BitVec 32) (ix2 R f)).toNat + f.val * 1000) % 26000 / 1000 = f.val := by omega
  have h2 : (((m ((d.tc : Thread nD τ).loc main_arg0) : S4096x26.Idx → BitVec 32) (ix2 R f)).toNat + f.val * 1000) % 26000 % 1000
      = ((m ((d.tc : Thread nD τ).loc main_arg0) : S4096x26.Idx → BitVec 32) (ix2 R f)).toNat := by omega
  simp only [h1, h2]

theorem block_lt {a b : ℕ} (f : Fin a) (e : Fin b) : b * f.val + e.val < a * b := by
  have h := Nat.mul_le_mul_left b (Nat.succ_le_of_lt f.isLt)
  have he := e.isLt
  rw [Nat.mul_succ, Nat.mul_comm b a] at h
  omega

/-- A sum over `a * b` positions, block by block. -/
theorem sum_blocks {a b n : ℕ} (hn : a * b = n) (F : Fin n → EReal) : ∑ q, F q = ∑ f : Fin a, ∑ e : Fin b, F ⟨b * f.val + e.val, hn ▸ block_lt f e⟩ := by
  subst hn
  rw [← Fintype.sum_prod_type' (f := fun (f : Fin a) (e : Fin b) => F ⟨b * f.val + e.val, block_lt f e⟩), ← Equiv.sum_comp finProdFinEquiv]
  exact Finset.sum_congr rfl fun x _ => congrArg F (Fin.ext (Nat.add_comm _ _))

/-- A sum whose terms past the first `k` are zero. -/
theorem sum_head {k l n : ℕ} (hn : k + l = n) (F : Fin n → EReal) (h : ∀ e : Fin n, k ≤ e.val → F e = 0) : ∑ e, F e = ∑ e : Fin k, F ⟨e.val, by omega⟩ := by
  subst hn
  rw [Fin.sum_univ_add, Finset.sum_eq_zero (s := Finset.univ) (f := fun i : Fin l => F (Fin.natAdd k i)) fun e _ => h _ (Nat.le_add_right _ _), add_zero]
  rfl

/-- The padded product over the gathered rows is the product over the embedding rows. -/
theorem padded_eq (h : I.InVocab m) (R : Fin 4096) (j : Fin 1024) :
    ∑ q : Fin 3328, I.emb m d (ix2 R q) * I.wcat m d (ix2 q j)
      = ∑ f : Fin 26, ∑ e : Fin 50, look (m ((d.tc : Thread nD τ).loc main_arg0)) (m ((d.tc : Thread nD τ).loc main_arg2)) (h d) R f e
          * (m ((d.tc : Thread nD τ).loc main_arg3) : S1313x1024.Idx → EReal) (ix2 ⟨50 * f.val + e.val, by omega⟩ j) := by
  rw [sum_blocks (a := 26) (b := 128) rfl]
  refine Finset.sum_congr rfl fun f _ => ?_
  rw [sum_head (k := 50) (l := 78) rfl]
  · refine Finset.sum_congr rfl fun e _ => ?_
    have he := e.isLt
    have hm : (128 * f.val + e.val) % 128 = e.val := by omega
    have hd : (128 * f.val + e.val) / 128 = f.val := by omega
    have e1 := emb_look m d h R f ⟨e.val, by omega⟩
    rw [dif_pos he] at e1
    have e2 := wcat_apply m d ⟨128 * f.val + e.val, by omega⟩ j (by dsimp only; omega)
    simp only [hm, hd] at e2
    have e3 : f.val * 50 + e.val = 50 * f.val + e.val := by omega
    simp only [e3] at e2
    exact congrArg₂ (fun a b : EReal => a * b) e1 e2
  · intro e he
    have e1 := emb_look m d h R f e
    rw [dif_neg (by omega)] at e1
    exact (congrArg (fun a : EReal => a * (I.wcat m d (ix2 ⟨128 * f.val + e.val, by omega⟩ j) : EReal)) e1).trans (zero_mul _)

end Cert.Proof.Value

end
-- ==== Proof.RefI.lean ====
/-
  The reference, at an element

  Its joined row is the 26 fields' embedding rows side by side, then the numeric columns; its result is `tail` of the
  first layer over that row.
-/
module

public import proofs.«01_k».proof.Proof.MlpI
public import proofs.«01_k».proof.Proof.Gen.ReferenceIdeal.Run
public import Idealize.ShloMosaic.Lib.Routing.OpsPair

@[expose] public section

noncomputable section

namespace Cert.Proof.Value

open Cert.ReferenceIdeal Cert.ReferenceIdeal.Gen
open Idealize.ShloMosaic

/-- The reference's index pairs: field, row. -/
def refIdx (a0 : IVec S4096x26 32) : IVec S4096x26x2 32 :=
  concatenate S4096x26x2 2 [⟨S4096x26x1, (broadcastInDim S4096x26x1 ![0, 1] bcast_S4096x26_S4096x26x1_0_1 (broadcastInDim S4096x26 ![1] bcast_S26_S4096x26_1 (select (cmpi .slt (iotaInDim S26 32 0) (broadcastInDim S26 ![] bcast_S_S26 (constantI S_ 32 0#32))) (addi (iotaInDim S26 32 0) (broadcastInDim S26 ![] bcast_S_S26 (constantI S_ 32 26#32))) (iotaInDim S26 32 0))))⟩, ⟨S4096x26x1, (broadcastInDim S4096x26x1 ![0, 1] bcast_S4096x26_S4096x26x1_0_1 (select (cmpi .slt a0 (broadcastInDim S4096x26 ![] bcast_S_S4096x26 (constantI S_ 32 0#32))) (addi a0 (broadcastInDim S4096x26 ![] bcast_S_S4096x26 (constantI S_ 32 1000#32))) a0))⟩] concatenates_S4096x26x1_S4096x26x1_S4096x26x2_d2

/-- The reference's joined rows. -/
def refX (a0 : IVec S4096x26 32) (a1 : FVec Ideal S4096x13 .f32) (a2 : FVec Ideal S26x1000x50 .f32) : FVec Ideal S4096x1313 .f32 :=
  concatenate S4096x1313 1 [⟨S4096x1300, (shapeCast _ (Host.gather gather_S26x1000x50_S4096x26x2_S4096x26x50_2_01_n_n_01_2_1150 a2 (refIdx a0)) shapeCasts_S4096x26x50_S4096x1300)⟩, ⟨S4096x13, a1⟩] concatenates_S4096x1300_S4096x13_S4096x1313_d1

/-- The reference's result. -/
def refOut (a0 : IVec S4096x26 32) (a1 : FVec Ideal S4096x13 .f32) (a2 : FVec Ideal S26x1000x50 .f32)
    (a3 : FVec Ideal S1313x1024 .f32) (a4 : FVec Ideal S1024 .f32) (a5 : FVec Ideal S1024x512 .f32) (a6 : FVec Ideal S512 .f32)
    (a7 : FVec Ideal S512x1024 .f32) (a8 : FVec Ideal S1024 .f32) (a9 : FVec Ideal S1024x1313 .f32) (a10 : FVec Ideal S1313 .f32) : FVec Ideal S4096x1313 .f32 :=
  addf (Host.dotGeneral dot_S4096x1024_S1024x1313_S4096x1313_1_0_0_1_n_n none (maximumf (addf (Host.dotGeneral dot_S4096x512_S512x1024_S4096x1024_1_0_0_1_n_n none (addf (Host.dotGeneral dot_S4096x1024_S1024x512_S4096x512_1_0_0_1_n_n none (maximumf (addf (Host.dotGeneral dot_S4096x1313_S1313x1024_S4096x1024_1_0_0_1_n_n none (refX a0 a1 a2) a3) (broadcastInDim S4096x1024 ![0, 1] bcast_S1x1024_S4096x1024_0_1 (broadcastInDim S1x1024 ![1] bcast_S1024_S1x1024_1 a4))) (broadcastInDim S4096x1024 ![] bcast_S_S4096x1024 (constant S_ .f32 0x00000000#32))) a5) (broadcastInDim S4096x512 ![0, 1] bcast_S1x512_S4096x512_0_1 (broadcastInDim S1x512 ![1] bcast_S512_S1x512_1 a6))) a7) (broadcastInDim S4096x1024 ![0, 1] bcast_S1x1024_S4096x1024_0_1 (broadcastInDim S1x1024 ![1] bcast_S1024_S1x1024_1 a8))) (broadcastInDim S4096x1024 ![] bcast_S_S4096x1024 (constant S_ .f32 0x00000000#32))) a9) (broadcastInDim S4096x1313 ![0, 1] bcast_S1x1313_S4096x1313_0_1 (broadcastInDim S1x1313 ![1] bcast_S1313_S1x1313_1 a10))

theorem refOut_apply (a0 : IVec S4096x26 32) (a1 : FVec Ideal S4096x13 .f32) (a2 : FVec Ideal S26x1000x50 .f32)
    (a3 : FVec Ideal S1313x1024 .f32) (a4 : FVec Ideal S1024 .f32) (a5 : FVec Ideal S1024x512 .f32) (a6 : FVec Ideal S512 .f32)
    (a7 : FVec Ideal S512x1024 .f32) (a8 : FVec Ideal S1024 .f32) (a9 : FVec Ideal S1024x1313 .f32) (a10 : FVec Ideal S1313 .f32) (R : Fin 4096) (n : Fin 1313) :
    refOut a0 a1 a2 a3 a4 a5 a6 a7 a8 a9 a10 (ix2 R n)
      = tail (fun j => max ((∑ q : Fin 1313, refX a0 a1 a2 (ix2 R q) * a3 (ix2 q j)) + a4 (ix1 j)) 0)
          a5 (fun l => a6 (ix1 l)) a7 (fun k => a8 (ix1 k)) a9 (fun k => a10 (ix1 k)) n := by
  unfold refOut tail
  generalize refX a0 a1 a2 = x
  pointwise

/-- A word below a thousand is not negative: jnp's wrap leaves it. -/
theorem wrap_small (x a : BitVec 32) (h : x.toNat < 1000) : Scalar.select (IntOp.cmpi .slt x 0#32) a x = x :=
  Routing.wrap_of_lt x a (lt_trans h (by norm_num))

/-- An index in range is read as it is. -/
theorem refIdx_apply (a0 : IVec S4096x26 32) (h : ∀ j, (a0 j).toNat < 1000) (R : Fin 4096) (f : Fin 26) :
    refIdx a0 (ix3 R f 0) = BitVec.ofNat 32 f.val ∧ refIdx a0 (ix3 R f 1) = a0 (ix2 R f) := by
  unfold refIdx
  pointwise
  have hf := f.isLt
  exact ⟨wrap_small _ _ (by rw [BitVec.toNat_ofNat, Nat.mod_eq_of_lt (by omega)]; omega), wrap_small _ _ (h _)⟩

/-- The lookup's dimension numbers read the operand at the two start words, clamped, and the column. -/
theorem gather_apply (x : FVec Ideal S26x1000x50 .f32) (idx : IVec S4096x26x2 32) (R : Fin 4096) (f : Fin 26) (e : Fin 50) (i : Fin 26) (v : Fin 1000)
    (hi : (idx (ix3 R f 0)).toInt = i.val) (hv : (idx (ix3 R f 1)).toInt = v.val) :
    Host.gather gather_S26x1000x50_S4096x26x2_S4096x26x50_2_01_n_n_01_2_1150 x idx (ix3 R f e) = x (ix3 i v e) := by
  unfold Host.gather
  refine congrArg x (funext fun a => Fin.ext ?_)
  match a with
  | ⟨0, _⟩ =>
    have e0 : GatherDims.siIdx gather_S26x1000x50_S4096x26x2_S4096x26x50_2_01_n_n_01_2_1150 (ix3 R f e) ⟨0, by decide⟩ = ix3 R f 0 := by
      funext b; match b with | ⟨0, _⟩ => rfl | ⟨1, _⟩ => rfl | ⟨2, _⟩ => rfl
    show min ((idx (GatherDims.siIdx gather_S26x1000x50_S4096x26x2_S4096x26x50_2_01_n_n_01_2_1150 (ix3 R f e) ⟨0, by decide⟩)).toInt.toNat) (26 - 1) + 0 + 0 = i.val
    rw [e0, hi]; have := i.isLt; omega
  | ⟨1, _⟩ =>
    have e0 : GatherDims.siIdx gather_S26x1000x50_S4096x26x2_S4096x26x50_2_01_n_n_01_2_1150 (ix3 R f e) ⟨1, by decide⟩ = ix3 R f 1 := by
      funext b; match b with | ⟨0, _⟩ => rfl | ⟨1, _⟩ => rfl | ⟨2, _⟩ => rfl
    show min ((idx (GatherDims.siIdx gather_S26x1000x50_S4096x26x2_S4096x26x50_2_01_n_n_01_2_1150 (ix3 R f e) ⟨1, by decide⟩)).toInt.toNat) (1000 - 1) + 0 + 0 = v.val
    rw [e0, hv]; have := v.isLt; omega
  | ⟨2, _⟩ => exact (Nat.zero_add _)

/-- A word below a thousand, read signed. -/
theorem toInt_small (x : BitVec 32) (h : x.toNat < 1000) : x.toInt = x.toNat := by
  rw [BitVec.toInt_eq_toNat_cond, if_pos (by omega)]

/-- A joined row. -/
theorem refX_apply (a0 : IVec S4096x26 32) (a1 : FVec Ideal S4096x13 .f32) (a2 : FVec Ideal S26x1000x50 .f32) (h : ∀ j, (a0 j).toNat < 1000) (R : Fin 4096) (q : Fin 1313) :
    refX a0 a1 a2 (ix2 R q) = if hq : q.val < 1300 then a2 (ix3 ⟨q.val / 50, by omega⟩ ⟨(a0 (ix2 R ⟨q.val / 50, by omega⟩)).toNat, h _⟩ ⟨q.val % 50, by omega⟩)
      else a1 (ix2 R ⟨q.val - 1300, by omega⟩) := by
  unfold refX
  pointwise
  by_cases hq : q.val < 1300
  · rw [dif_pos hq, dif_pos hq]
    obtain ⟨h0, h1⟩ := refIdx_apply a0 h R ⟨q.val / 50, by omega⟩
    refine gather_apply a2 _ R _ _ _ _ ?_ ?_
    · rw [h0, toInt_small _ (by rw [BitVec.toNat_ofNat, Nat.mod_eq_of_lt (by omega)]; omega), BitVec.toNat_ofNat, Nat.mod_eq_of_lt (by omega)]
    · rw [h1]; exact toInt_small _ (h _)
  · rw [dif_neg hq, dif_neg hq]

end Cert.Proof.Value

end
-- ==== Proof.ValueI.lean ====
/-
  The kernel's result is the reference's
-/
module

public import proofs.«01_k».proof.Proof.OutI
public import proofs.«01_k».proof.Proof.FirstI
public import proofs.«01_k».proof.Proof.RefI

@[expose] public section

noncomputable section

namespace Cert.Proof.Value

open Cert.KernelIdeal Cert.KernelIdeal.Gen
open Idealize.ShloMosaic Idealize.ShloMosaic.TcCoe
open Idealize.SL Idealize.SL.Sem

variable (m : (ℓ : Loc nD τ sig) → Buf (Elt Ideal) ℓ) (d : Dev nD)

/-- The reference's first product, field by field, then the numeric columns. -/
theorem joined_eq (a0 : S4096x26.Idx → BitVec 32) (a1 : S4096x13.Idx → EReal) (a2 : S26x1000x50.Idx → EReal) (a3 : S1313x1024.Idx → EReal)
    (h : ∀ j, (a0 j).toNat < 1000) (R : Fin 4096) (j : Fin 1024) :
    ∑ q : Fin 1313, refX a0 a1 a2 (ix2 R q) * a3 (ix2 q j)
      = (∑ f : Fin 26, ∑ e : Fin 50, look a0 a2 h R f e * a3 (ix2 ⟨50 * f.val + e.val, by omega⟩ j))
        + ∑ q : Fin 13, a1 (ix2 R q) * a3 (ix2 ⟨1300 + q.val, by omega⟩ j) := by
  rw [show ∑ q : Fin 1313, refX a0 a1 a2 (ix2 R q) * a3 (ix2 q j)
      = (∑ q : Fin 1300, refX a0 a1 a2 (ix2 R ⟨q.val, by omega⟩) * a3 (ix2 ⟨q.val, by omega⟩ j))
        + ∑ q : Fin 13, refX a0 a1 a2 (ix2 R ⟨1300 + q.val, by omega⟩) * a3 (ix2 ⟨1300 + q.val, by omega⟩ j)
    from Fin.sum_univ_add (a := 1300) (b := 13) fun q : Fin 1313 => refX a0 a1 a2 (ix2 R q) * a3 (ix2 q j)]
  refine congrArg₂ (fun a b : EReal => a + b) ?_ ?_
  · rw [sum_blocks (a := 26) (b := 50) rfl]
    refine Finset.sum_congr rfl fun f _ => Finset.sum_congr rfl fun e _ => congrArg (fun a : EReal => a * _) ?_
    have he := e.isLt
    have hf := f.isLt
    have hm : (50 * f.val + e.val) % 50 = e.val := by omega
    have hd : (50 * f.val + e.val) / 50 = f.val := by omega
    rw [refX_apply a0 a1 a2 h, dif_pos (show 50 * f.val + e.val < 1300 by omega)]
    simp only [hm, hd]
    rfl
  · refine Finset.sum_congr rfl fun q _ => congrArg (fun a : EReal => a * _) ?_
    have hq : 1300 + q.val - 1300 = q.val := by omega
    rw [refX_apply a0 a1 a2 h, dif_neg (show ¬ 1300 + q.val < 1300 by omega)]
    simp only [hq]

/-- The numeric columns' weights, at an element. -/
theorem slice_apply (a3 : S1313x1024.Idx → EReal) (q : Fin 13) (j : Fin 1024) :
    extractStridedSlice S13x1024 ![1300, 0] a3 slices_S1313x1024_S13x1024_1300_0 (ix2 q j) = a3 (ix2 ⟨1300 + q.val, by omega⟩ j) := by
  pointwise

/-- The biases, as rows, at an element. -/
theorem bias1024 (b : S1024.Idx → EReal) (j : Fin 1024) : shapeCast S1x1024 b shapeCasts_S1024_S1x1024 (ix2 0 j) = b (ix1 j) := by
  pointwise
theorem bias512 (b : S512.Idx → EReal) (j : Fin 512) : shapeCast S1x512 b shapeCasts_S512_S1x512 (ix2 0 j) = b (ix1 j) := by
  pointwise
theorem bias1313 (b : S1313.Idx → EReal) (j : Fin 1313) : shapeCast S1x1313 b shapeCasts_S1313_S1x1313 (ix2 0 j) = b (ix1 j) := by
  pointwise

/-- The layers together: with the padded product that of the embedding rows, the kernel's result is the reference's. -/
theorem layers_eq (a0 : S4096x26.Idx → BitVec 32) (a1 : S4096x13.Idx → EReal) (a2 : S26x1000x50.Idx → EReal) (a3 : S1313x1024.Idx → EReal)
    (a4 : S1024.Idx → EReal) (a5 : S1024x512.Idx → EReal) (a6 : S512.Idx → EReal) (a7 : S512x1024.Idx → EReal) (a8 : S1024.Idx → EReal)
    (a9 : S1024x1313.Idx → EReal) (a10 : S1313.Idx → EReal) (h : ∀ j, (a0 j).toNat < 1000)
    (x : S4096x3328.Idx → EReal) (w : S3328x1024.Idx → EReal)
    (hx : ∀ R j, ∑ q : Fin 3328, x (ix2 R q) * w (ix2 q j)
      = ∑ f : Fin 26, ∑ e : Fin 50, look a0 a2 h R f e * a3 (ix2 ⟨50 * f.val + e.val, by omega⟩ j)) (R : Fin 4096) (n : Fin 1313) :
    tail (hidK x w a1 (extractStridedSlice S13x1024 ![1300, 0] a3 slices_S1313x1024_S13x1024_1300_0) (shapeCast S1x1024 a4 shapeCasts_S1024_S1x1024) R)
        a5 (fun l => shapeCast S1x512 a6 shapeCasts_S512_S1x512 (ix2 0 l)) a7 (fun k => shapeCast S1x1024 a8 shapeCasts_S1024_S1x1024 (ix2 0 k))
        a9 (fun k => shapeCast S1x1313 a10 shapeCasts_S1313_S1x1313 (ix2 0 k)) n
      = refOut a0 a1 a2 a3 a4 a5 a6 a7 a8 a9 a10 (ix2 R n) := by
  rw [refOut_apply]
  have hh : hidK x w a1 (extractStridedSlice S13x1024 ![1300, 0] a3 slices_S1313x1024_S13x1024_1300_0) (shapeCast S1x1024 a4 shapeCasts_S1024_S1x1024) R
      = fun j => max ((∑ q : Fin 1313, refX a0 a1 a2 (ix2 R q) * a3 (ix2 q j)) + a4 (ix1 j)) 0 := by
    funext j
    unfold hidK
    rw [hx, joined_eq a0 a1 a2 a3 h, bias1024]
    simp only [slice_apply]
  rw [hh]
  simp only [bias512, bias1024, bias1313]

/-- The result array is the reference's, of the same arguments. -/
theorem out_eq (h : I.InVocab m) : I.outArr (I.Vin m) d = refOut (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg4))
    (m ((d.tc : Thread nD τ).loc main_arg5)) (m ((d.tc : Thread nD τ).loc main_arg6)) (m ((d.tc : Thread nD τ).loc main_arg7))
    (m ((d.tc : Thread nD τ).loc main_arg8)) (m ((d.tc : Thread nD τ).loc main_arg9)) (m ((d.tc : Thread nD τ).loc main_arg10)) := by
  rw [outArr_eq]
  rw [show I.Vin m d main_v4 = I.emb m d from I.V3_v4 m d, show I.Vin m d main_v10 = I.wcat m d from I.V3_v10 m d,
    show I.Vin m d main_v11 = _ from I.V3_v11 m d, show I.Vin m d main_v12 = _ from I.V3_v12 m d, show I.Vin m d main_v13 = _ from I.V3_v13 m d,
    show I.Vin m d main_v14 = _ from I.V3_v14 m d, show I.Vin m d main_v15 = _ from I.V3_v15 m d,
    show I.Vin m d main_arg1 = _ from I.V3_keep m d main_arg1 (by decide) (by decide) (by decide),
    show I.Vin m d main_arg5 = _ from I.V3_keep m d main_arg5 (by decide) (by decide) (by decide),
    show I.Vin m d main_arg7 = _ from I.V3_keep m d main_arg7 (by decide) (by decide) (by decide),
    show I.Vin m d main_arg9 = _ from I.V3_keep m d main_arg9 (by decide) (by decide) (by decide)]
  funext i
  exact (layers_eq _ _ _ _ _ _ _ _ _ _ _ (h d) _ _ (padded_eq m d h) (i 0) (i 1)).trans (congrArg _ (eq_ix2 i).symm)

end Cert.Proof.Value

end
-- ==== Proof.lean ====
/-
  The claims of this directory: the kernel, at machine floats and at extended reals, runs to its end from row numbers
  that lie in the tables, keeps its arguments and leaves every semaphore at zero; so does the reference, from any
  arguments.  Over the extended reals the two end with the same result.
-/
module

public import proofs.«01_k».proof.Defs
public import proofs.«01_k».proof.Proof.FrameB
public import proofs.«01_k».proof.Proof.FrameI
public import proofs.«01_k».proof.Proof.PreOk
public import proofs.«01_k».proof.Proof.ValueI
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

instance nonempty_bits (e : EltTy) : Nonempty (Elt Bits e) := by cases e <;> exact ⟨default⟩
instance nonempty_ideal (e : EltTy) : Nonempty (Elt Ideal e) := by cases e <;> exact ⟨default⟩

/-- The precondition, as the machine-float proof reads it. -/
theorem inVocab_bits (m : (ℓ : Loc Cert.Kernel.nD Cert.Kernel.τ Cert.Kernel.sig) → Buf (Elt Bits) ℓ)
    (h : Cert.Pre_Kernel m) : B.InVocab m := fun d j => range_of_pre _ _ _ _ _ _ _ _ _ _ _ (h d) j

/-- The precondition, as the extended-real proof reads it. -/
theorem inVocab_ideal (m : (ℓ : Loc Cert.KernelIdeal.nD Cert.KernelIdeal.τ Cert.KernelIdeal.sig) → Buf (Elt Ideal) ℓ)
    (h : Cert.Pre_KernelIdeal m) : I.InVocab m := fun d j => range_of_pre _ _ _ _ _ _ _ _ _ _ _ (h d) j

theorem frame_kernel : Cert.quiescent_Kernel := fun m g h =>
  (θ_run Cert.Kernel.defs _ _).mono (fun _ hr => ⟨fun c => (hr.1 c).2, hr.2⟩) (B.run_args (F := Bits) m g (inVocab_bits m h))

theorem frame_kernelIdeal : Cert.quiescent_KernelIdeal := fun m g h =>
  (θ_run Cert.KernelIdeal.defs _ _).mono (fun _ hr => ⟨fun c => (hr.1 c).2, hr.2⟩) (I.run_args (F := Ideal) m g (inVocab_ideal m h))

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_referenceIdeal_in_vocab : Cert.quiescent_ReferenceIdeal_pre_in_vocab := fun m g _ => frame_referenceIdeal m g trivial

/-- The kernel ends with `I.outArr`, which is the reference's result of the same arguments. -/
theorem algebraic : Cert.algebraic_KernelIdeal_ReferenceIdeal := by
  intro m g m' g' hpre hag
  have hv := inVocab_ideal m hpre
  refine ⟨fun c => I.outArr (I.Vin m) c,
    (θ_run Cert.KernelIdeal.defs _ _).mono (fun _ hr => hr.1) (I.run_args (F := Ideal) m g hv),
    (θ_run Cert.ReferenceIdeal.defs _ _).mono (fun r hr c => ⟨(hr c).1.trans ?_, (hr c).2⟩) (Cert.ReferenceIdeal.Value.run (F := Ideal) m' g')⟩
  obtain ⟨h0, h1, h2, h3, h4, h5, h6, h7, h8, h9, h10⟩ := hag c
  rw [h0, h1, h2, h3, h4, h5, h6, h7, h8, h9, h10]
  exact (Value.out_eq m c hv).symm

theorem claim : Cert.Claim :=
  ⟨Cert.Kernel.Gen.facts, Cert.KernelIdeal.Gen.facts, Cert.ReferenceIdeal.Gen.facts, Cert.Pre_in_vocab.Gen.facts,
    frame_kernel, frame_kernelIdeal, frame_referenceIdeal, frame_referenceIdeal_in_vocab,
    trivial, algebraic⟩

end Cert.Proof

end
